-- ==== Defs.lean ====
def Pre_Kernel [hPre_edges_in_range : Cert.Pre_edges_in_range.Facts] (m : (ℓ : Loc Cert.Kernel.nD Cert.Kernel.τ Cert.Kernel.sig) → Buf (Elt Bits) ℓ) : Prop :=
  ∀ c : Dev Cert.Kernel.nD,
    (Cert.Pre_edges_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_edges_in_range : Cert.Pre_edges_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_edges_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_in_range_row0_finite [hPre_in_range_row0_finite : Cert.Pre_in_range_row0_finite.Facts] (m : (ℓ : Loc Cert.KernelIdeal.nD Cert.KernelIdeal.τ Cert.KernelIdeal.sig) → Buf (Elt Ideal) ℓ) : Prop :=
  ∀ c : Dev Cert.KernelIdeal.nD,
    (Cert.Pre_in_range_row0_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range_row0_finite [hPre_in_range_row0_finite : Cert.Pre_in_range_row0_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range_row0_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_edges_in_range : Cert.Pre_edges_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_edges_in_range : Cert.Pre_edges_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_in_range_row0_finite [hKernelIdeal : Cert.KernelIdeal.Facts] [hPre_in_range_row0_finite : Cert.Pre_in_range_row0_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range_row0_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range_row0_finite [hReferenceIdeal : Cert.ReferenceIdeal.Facts] [hPre_in_range_row0_finite : Cert.Pre_in_range_row0_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range_row0_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_in_range_row0_finite [hKernelIdeal : Cert.KernelIdeal.Facts] [hReferenceIdeal : Cert.ReferenceIdeal.Facts] [hPre_in_range_row0_finite : Cert.Pre_in_range_row0_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range_row0_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_edges_in_range : Cert.Pre_edges_in_range.Facts) (hPre_in_range_row0_finite : Cert.Pre_in_range_row0_finite.Facts),
    quiescent_Kernel (hKernel := hKernel) (hPre_edges_in_range := hPre_edges_in_range)
    ∧ quiescent_KernelIdeal (hKernelIdeal := hKernelIdeal) (hPre_edges_in_range := hPre_edges_in_range)
    ∧ quiescent_KernelIdeal_pre_in_range_row0_finite (hKernelIdeal := hKernelIdeal) (hPre_in_range_row0_finite := hPre_in_range_row0_finite)
    ∧ quiescent_ReferenceIdeal (hReferenceIdeal := hReferenceIdeal)
    ∧ quiescent_ReferenceIdeal_pre_in_range_row0_finite (hReferenceIdeal := hReferenceIdeal) (hPre_in_range_row0_finite := hPre_in_range_row0_finite)
    ∧ preserves_Kernel_KernelIdeal
    ∧ algebraic_KernelIdeal_ReferenceIdeal_pre_in_range_row0_finite (hKernelIdeal := hKernelIdeal) (hReferenceIdeal := hReferenceIdeal) (hPre_in_range_row0_finite := hPre_in_range_row0_finite)
-- ==== Pre_edges_in_range.lean ====
abbrev S10000x128 : Shape := ⟨2, ![10000, 128]⟩
abbrev S2x320000 : Shape := ⟨2, ![2, 320000]⟩
abbrev S_ : Shape := ⟨0, ![]⟩

class Facts : Prop where
  bcast_S_S2x320000 : S_.BroadcastsInDim S2x320000 (![] : Fin 0 → Fin S2x320000.rank)
  reducesTo_S2x320000_S_d0_1 : S2x320000.ReducesTo [0, 1] S_
  h_S_ : 0 < S_.numel

variable [Facts]

def fn {F : FTy → Type} [FloatOps F] (main_arg0 : FVec F S10000x128 .f32) (main_arg1 : IVec S2x320000 32) : IVec S_ 1 :=
  let main_c : IVec S_ 32 := constantI S_ 32 0#32
  let main_v0 : IVec S2x320000 32 := broadcastInDim S2x320000 ![] bcast_S_S2x320000 main_c
  let main_v1 : IVec S2x320000 1 := cmpi .sge main_arg1 main_v0
  let main_c_0 : IVec S_ 32 := constantI S_ 32 10000#32
  let main_v2 : IVec S2x320000 32 := broadcastInDim S2x320000 ![] bcast_S_S2x320000 main_c_0
  let main_v3 : IVec S2x320000 1 := cmpi .slt main_arg1 main_v2
  let main_v4 : IVec S2x320000 1 := andi main_v1 main_v3
  let main_c_1 : IVec S_ 1 := constantI S_ 1 1#1
  let main_v5 : IVec S_ 1 := (fun x v => Host.reduce IntOp.andi x v reducesTo_S2x320000_S_d0_1 h_S_) main_v4 main_c_1
  main_v5
-- ==== Pre_in_range_row0_finite.lean ====
abbrev S10000x128 : Shape := ⟨2, ![10000, 128]⟩
abbrev S2x320000 : Shape := ⟨2, ![2, 320000]⟩
abbrev S_ : Shape := ⟨0, ![]⟩
abbrev S1x128 : Shape := ⟨2, ![1, 128]⟩
abbrev S128 : Shape := ⟨1, ![128]⟩

class Facts : Prop where
  bcast_S_S2x320000 : S_.BroadcastsInDim S2x320000 (![] : Fin 0 → Fin S2x320000.rank)
  reducesTo_S2x320000_S_d0_1 : S2x320000.ReducesTo [0, 1] S_
  h_S_ : 0 < S_.numel
  slices_S10000x128_S1x128_0_0 : S10000x128.Slices ![0, 0] S1x128
  shapeCasts_S1x128_S128 : S1x128.ShapeCasts S128
  bcast_S_S128 : S_.BroadcastsInDim S128 (![] : Fin 0 → Fin S128.rank)
  reducesTo_S128_S_d0 : S128.ReducesTo [0] S_

variable [Facts]

def fn {F : FTy → Type} [FloatOps F] (main_arg0 : FVec F S10000x128 .f32) (main_arg1 : IVec S2x320000 32) : IVec S_ 1 :=
  let main_c : IVec S_ 32 := constantI S_ 32 0#32
  let main_v0 : IVec S2x320000 32 := broadcastInDim S2x320000 ![] bcast_S_S2x320000 main_c
  let main_v1 : IVec S2x320000 1 := cmpi .sge main_arg1 main_v0
  let main_c_0 : IVec S_ 32 := constantI S_ 32 10000#32
  let main_v2 : IVec S2x320000 32 := broadcastInDim S2x320000 ![] bcast_S_S2x320000 main_c_0
  let main_v3 : IVec S2x320000 1 := cmpi .slt main_arg1 main_v2
  let main_v4 : IVec S2x320000 1 := andi main_v1 main_v3
  let main_c_1 : IVec S_ 1 := constantI S_ 1 1#1
  let main_v5 : IVec S_ 1 := (fun x v => Host.reduce IntOp.andi x v reducesTo_S2x320000_S_d0_1 h_S_) main_v4 main_c_1
  let main_v6 : FVec F S1x128 .f32 := (extractStridedSlice S1x128 ![0, 0] · slices_S10000x128_S1x128_0_0) main_arg0
  let main_v7 : FVec F S128 .f32 := shapeCast S128 main_v6 shapeCasts_S1x128_S128
  let main_v8 : FVec F S128 .f32 := Host.absf main_v7
  let main_cst : FVec F S_ .f32 := constant S_ .f32 0x7F800000#32
  let main_v9 : FVec F S128 .f32 := broadcastInDim S128 ![] bcast_S_S128 main_cst
  let main_v10 : IVec S128 1 := cmpf .olt main_v8 main_v9
  let main_c_2 : IVec S_ 1 := constantI S_ 1 1#1
  let main_v11 : IVec S_ 1 := (fun x v => Host.reduce IntOp.andi x v reducesTo_S128_S_d0 h_S_) main_v10 main_c_2
  let main_v12 : IVec S_ 1 := andi main_v5 main_v11
  main_v12
-- ==== Kernel.lean ====
abbrev S10000x128 : Shape := ⟨2, ![10000, 128]⟩
abbrev S2x320000 : Shape := ⟨2, ![2, 320000]⟩
abbrev S1x320000 : Shape := ⟨2, ![1, 320000]⟩
abbrev S320000 : Shape := ⟨1, ![320000]⟩
abbrev S32x16 : Shape := ⟨2, ![32, 16]⟩
abbrev S80 : Shape := ⟨1, ![80]⟩
abbrev S80x128 : Shape := ⟨2, ![80, 128]⟩
abbrev S16 : Shape := ⟨1, ![16]⟩
abbrev S_ : Shape := ⟨0, ![]⟩
abbrev S1x16 : Shape := ⟨2, ![1, 16]⟩
abbrev S1x1 : Shape := ⟨2, ![1, 1]⟩
abbrev S1x32x16 : Shape := ⟨3, ![1, 32, 16]⟩
abbrev S1 : Shape := ⟨1, ![1]⟩
abbrev S1x1x1 : Shape := ⟨3, ![1, 1, 1]⟩

abbrev nBuf : Table → Nat
  | .hbm => 10
  | .local .tc .vmem => 2
  | .local .tc .smem => 1
  | .local .scVector .vmem => 6
  | _ => 0

abbrev bufTy : (tb : Table) → Fin (nBuf tb) → BufTy
  | .hbm, ⟨0, _⟩ => ⟨S10000x128, .f32⟩
  | .hbm, ⟨1, _⟩ => ⟨S2x320000, .i32⟩
  | .hbm, ⟨2, _⟩ => ⟨S1x320000, .i32⟩
  | .hbm, ⟨3, _⟩ => ⟨S320000, .i32⟩
  | .hbm, ⟨4, _⟩ => ⟨S1x320000, .i32⟩
  | .hbm, ⟨5, _⟩ => ⟨S320000, .i32⟩
  | .hbm, ⟨6, _⟩ => ⟨S32x16, .f32⟩
  | .hbm, ⟨7, _⟩ => ⟨S32x16, .f32⟩
  | .hbm, ⟨8, _⟩ => ⟨S1x1, .f32⟩
  | .hbm, ⟨9, _⟩ => ⟨S_, .f32⟩
  | .local .tc .vmem, ⟨0, _⟩ => ⟨S32x16, .f32⟩
  | .local .tc .vmem, ⟨1, _⟩ => ⟨S32x16, .f32⟩
  | .local .tc .smem, ⟨0, _⟩ => ⟨S1x1, .f32⟩
  | .local .scVector .vmem, ⟨0, _⟩ => ⟨S80, .i32⟩
  | .local .scVector .vmem, ⟨1, _⟩ => ⟨S80, .i32⟩
  | .local .scVector .vmem, ⟨2, _⟩ => ⟨S80x128, .f32⟩
  | .local .scVector .vmem, ⟨3, _⟩ => ⟨S80x128, .f32⟩
  | .local .scVector .vmem, ⟨4, _⟩ => ⟨S16, .f32⟩
  | .local .scVector .vmem, ⟨5, _⟩ => ⟨S16, .f32⟩
  | _, _ => ⟨S10000x128, .f32⟩

abbrev bufScoped : (cs : CoreSpace) → Fin (nBuf (.local .tc cs)) → Bool
  | .vmem, ⟨0, _⟩ => true
  | .vmem, ⟨1, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev main_v5 : Ref sig .tc := ⟨.hbm, 8, rfl⟩
abbrev main_v6 : Ref sig .tc := ⟨.hbm, 9, rfl⟩
abbrev main_arg0_scv : Ref sig .scVector := ⟨.hbm, 0, rfl⟩
abbrev main_v1_scv : Ref sig .scVector := ⟨.hbm, 3, rfl⟩
abbrev main_v3_scv : Ref sig .scVector := ⟨.hbm, 5, rfl⟩
abbrev main_v4_0_scv : Ref sig .scVector := ⟨.hbm, 6, rfl⟩
abbrev main_v4_1_scv : Ref sig .scVector := ⟨.hbm, 7, rfl⟩
abbrev cc1_stg0_0 : Ref sig .tc := ⟨.vmem, 0, rfl⟩
abbrev cc1_stg1_0 : Ref sig .tc := ⟨.vmem, 1, rfl⟩
abbrev cc1_stg2_0 : Ref sig .tc := ⟨.smem, 0, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc1_sem0_0 : DmaSem sig := 5
abbrev cc1_sem1_0 : DmaSem sig := 6
abbrev cc1_sem2_0 : DmaSem sig := 7
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32 : BitVec 32 := 0#32
  let c125_i32 : BitVec 32 := 125#32
  let v4 : BitVec 32 := Scalar.addi c0_i32 c125_i32
  let c1_i32 : BitVec 32 := 1#32
  ⟨c0_i32, v4, c1_i32⟩
def k0_off1 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v2 : BitVec 32 := Scalar.muli v1 c10000_i32
  let c0_i32 : BitVec 32 := 0#32
  let c1_i32 : BitVec 32 := 1#32
  let arg14 : BitVec 32 := Scf.iv c0_i32 c1_i32 k0_t1
  let c80_i32 : BitVec 32 := 80#32
  let v19 : BitVec 32 := Scalar.muli arg14 c80_i32
  let v20 : BitVec 32 := Scalar.addi v2 v19
  ![v20.toNat]
@[reducible] def k0_t2_loop : Scf.Loop 32 :=
  let c0_i32_10 : BitVec 32 := 0#32
  let c5_i32 : BitVec 32 := 5#32
  let v25 : BitVec 32 := Scalar.addi c0_i32_10 c5_i32
  let c1_i32_11 : BitVec 32 := 1#32
  ⟨c0_i32_10, v25, c1_i32_11⟩
def k0_off2 (k0_t2 : Fin k0_t2_loop.trips) : Fin 1 → Nat :=
  let c0_i32_10 : BitVec 32 := 0#32
  let c1_i32_11 : BitVec 32 := 1#32
  let arg24 : BitVec 32 := Scf.iv c0_i32_10 c1_i32_11 k0_t2
  let c16_i32 : BitVec 32 := 16#32
  let v29 : BitVec 32 := Scalar.muli arg24 c16_i32
  let v30 : Index := Scalar.indexCast v29
  ![v30.toNat]
@[reducible] def k0_t3_loop : Scf.Loop 32 :=
  let c0_i32_13 : BitVec 32 := 0#32
  let c80_i32_14 : BitVec 32 := 80#32
  let v27 : BitVec 32 := Scalar.addi c0_i32_13 c80_i32_14
  let c1_i32_15 : BitVec 32 := 1#32
  ⟨c0_i32_13, v27, c1_i32_15⟩
def k0_off3 (k0_t3 : Fin k0_t3_loop.trips) : Fin 2 → Nat :=
  let c0_i32_13 : BitVec 32 := 0#32
  let c1_i32_15 : BitVec 32 := 1#32
  let arg24 : BitVec 32 := Scf.iv c0_i32_13 c1_i32_15 k0_t3
  let v29 : Index := Scalar.indexCast arg24
  let c0_17 : Index := 0#32
  ![v29.toNat, 0]
def k0_off4 (k0_t3 : Fin k0_t3_loop.trips) : Fin 2 → Nat :=
  let c0_i32_13 : BitVec 32 := 0#32
  let c1_i32_15 : BitVec 32 := 1#32
  let arg24 : BitVec 32 := Scf.iv c0_i32_13 c1_i32_15 k0_t3
  let v38 : Index := Scalar.indexCast arg24
  let c16 : Index := 16#32
  ![v38.toNat, 16]
def k0_off5 (k0_t3 : Fin k0_t3_loop.trips) : Fin 2 → Nat :=
  let c0_i32_13 : BitVec 32 := 0#32
  let c1_i32_15 : BitVec 32 := 1#32
  let arg24 : BitVec 32 := Scf.iv c0_i32_13 c1_i32_15 k0_t3
  let v47 : Index := Scalar.indexCast arg24
  let c32 : Index := 32#32
  ![v47.toNat, 32]
def k0_off6 (k0_t3 : Fin k0_t3_loop.trips) : Fin 2 → Nat :=
  let c0_i32_13 : BitVec 32 := 0#32
  let c1_i32_15 : BitVec 32 := 1#32
  let arg24 : BitVec 32 := Scf.iv c0_i32_13 c1_i32_15 k0_t3
  let v56 : Index := Scalar.indexCast arg24
  let c48 : Index := 48#32
  ![v56.toNat, 48]
def k0_off7 (k0_t3 : Fin k0_t3_loop.trips) : Fin 2 → Nat :=
  let c0_i32_13 : BitVec 32 := 0#32
  let c1_i32_15 : BitVec 32 := 1#32
  let arg24 : BitVec 32 := Scf.iv c0_i32_13 c1_i32_15 k0_t3
  let v65 : Index := Scalar.indexCast arg24
  let c64 : Index := 64#32
  ![v65.toNat, 64]
def k0_off8 (k0_t3 : Fin k0_t3_loop.trips) : Fin 2 → Nat :=
  let c0_i32_13 : BitVec 32 := 0#32
  let c1_i32_15 : BitVec 32 := 1#32
  let arg24 : BitVec 32 := Scf.iv c0_i32_13 c1_i32_15 k0_t3
  let v74 : Index := Scalar.indexCast arg24
  let c80 : Index := 80#32
  ![v74.toNat, 80]
def k0_off9 (k0_t3 : Fin k0_t3_loop.trips) : Fin 2 → Nat :=
  let c0_i32_13 : BitVec 32 := 0#32
  let c1_i32_15 : BitVec 32 := 1#32
  let arg24 : BitVec 32 := Scf.iv c0_i32_13 c1_i32_15 k0_t3
  let v83 : Index := Scalar.indexCast arg24
  let c96 : Index := 96#32
  ![v83.toNat, 96]
def k0_off10 (k0_t3 : Fin k0_t3_loop.trips) : Fin 2 → Nat :=
  let c0_i32_13 : BitVec 32 := 0#32
  let c1_i32_15 : BitVec 32 := 1#32
  let arg24 : BitVec 32 := Scf.iv c0_i32_13 c1_i32_15 k0_t3
  let v92 : Index := Scalar.indexCast arg24
  let c112 : Index := 112#32
  ![v92.toNat, 112]
def k0_off11 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_2_r2 : BitVec 32 := 0#32
  ![v1.toNat, 0]
abbrev grid1 : Pipeline.Grid := .none

abbrev stage1_0 : Fin 1 → Memref sig .tc .vmem S32x16 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S32x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .smem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S10000x128 : Shape := ⟨2, ![10000, 128]⟩
abbrev S2x320000 : Shape := ⟨2, ![2, 320000]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S1 : Shape := ⟨1, ![1]⟩
abbrev S1x1 : Shape := ⟨2, ![1, 1]⟩
abbrev S320000x128 : Shape := ⟨2, ![320000, 128]⟩

abbrev nBuf : Space → Nat
  | .hbm => 74
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S2x320000, .i32⟩
  | .hbm, ⟨2, _⟩ => ⟨S1x320000, .i32⟩
  | .hbm, ⟨3, _⟩ => ⟨S320000, .i32⟩
  | .hbm, ⟨4, _⟩ => ⟨S_, .i32⟩
  | .hbm, ⟨5, _⟩ => ⟨S320000, .i32⟩
  | .hbm, ⟨6, _⟩ => ⟨S320000, .i1⟩
  | .hbm, ⟨7, _⟩ => ⟨S1x320000, .i32⟩
  | .hbm, ⟨8, _⟩ => ⟨S320000, .i32⟩
  | .hbm, ⟨9, _⟩ => ⟨S_, .i32⟩
  | .hbm, ⟨10, _⟩ => ⟨S320000, .i32⟩
  | .hbm, ⟨11, _⟩ => ⟨S320000, .i1⟩
  | .hbm, ⟨12, _⟩ => ⟨S320000, .i1⟩
  | .hbm, ⟨13, _⟩ => ⟨S1x320000, .i32⟩
  | .hbm, ⟨14, _⟩ => ⟨S320000, .i32⟩
  | .hbm, ⟨15, _⟩ => ⟨S_, .i32⟩
  | .hbm, ⟨16, _⟩ => ⟨S320000, .i32⟩
  | .hbm, ⟨17, _⟩ => ⟨S320000, .i1⟩
  | .hbm, ⟨18, _⟩ => ⟨S_, .i32⟩
  | .hbm, ⟨19, _⟩ => ⟨S320000, .i32⟩
  | .hbm, ⟨20, _⟩ => ⟨S320000, .i32⟩
  | .hbm, ⟨21, _⟩ => ⟨S320000, .i32⟩
  | .hbm, ⟨22, _⟩ => ⟨S320000x1, .i32⟩
  | .hbm, ⟨23, _⟩ => ⟨S1, .i32⟩
  | .hbm, ⟨24, _⟩ => ⟨S_, .i32⟩
  | .hbm, ⟨25, _⟩ => ⟨S320000x1, .i32⟩
  | .hbm, ⟨26, _⟩ => ⟨S320000x1, .i1⟩
  | .hbm, ⟨27, _⟩ => ⟨S1x1, .i32⟩
  | .hbm, ⟨28, _⟩ => ⟨S320000x1, .i32⟩
  | .hbm, ⟨29, _⟩ => ⟨S320000x1, .i1⟩
  | .hbm, ⟨30, _⟩ => ⟨S320000x1, .i1⟩
  | .hbm, ⟨31, _⟩ => ⟨S_, .i1⟩
  | .hbm, ⟨32, _⟩ => ⟨S320000, .i1⟩
  | .hbm, ⟨33, _⟩ => ⟨S320000x128, .f32⟩
  | .hbm, ⟨34, _⟩ => ⟨S320000x128, .i1⟩
  | .hbm, ⟨35, _⟩ => ⟨S_, .f32⟩
  | .hbm, ⟨36, _⟩ => ⟨S320000x128, .f32⟩
  | .hbm, ⟨37, _⟩ => ⟨S320000x128, .f32⟩
  | .hbm, ⟨38, _⟩ => ⟨S1x320000, .i32⟩
  | .hbm, ⟨39, _⟩ => ⟨S320000, .i32⟩
  | .hbm, ⟨40, _⟩ => ⟨S_, .i32⟩
  | .hbm, ⟨41, _⟩ => ⟨S320000, .i32⟩
  | .hbm, ⟨42, _⟩ => ⟨S320000, .i1⟩
  | .hbm, ⟨43, _⟩ => ⟨S_, .i32⟩
  | .hbm, ⟨44, _⟩ => ⟨S320000, .i32⟩
  | .hbm, ⟨45, _⟩ => ⟨S320000, .i32⟩
  | .hbm, ⟨46, _⟩ => ⟨S320000, .i32⟩
  | .hbm, ⟨47, _⟩ => ⟨S320000x1, .i32⟩
  | .hbm, ⟨48, _⟩ => ⟨S1, .i32⟩
  | .hbm, ⟨49, _⟩ => ⟨S_, .i32⟩
  | .hbm, ⟨50, _⟩ => ⟨S320000x1, .i32⟩
  | .hbm, ⟨51, _⟩ => ⟨S320000x1, .i1⟩
  | .hbm, ⟨52, _⟩ => ⟨S1x1, .i32⟩
  | .hbm, ⟨53, _⟩ => ⟨S320000x1, .i32⟩
  | .hbm, ⟨54, _⟩ => ⟨S320000x1, .i1⟩
  | .hbm, ⟨55, _⟩ => ⟨S320000x1, .i1⟩
  | .hbm, ⟨56, _⟩ => ⟨S_, .i1⟩
  | .hbm, ⟨57, _⟩ => ⟨S320000, .i1⟩
  | .hbm, ⟨58, _⟩ => ⟨S320000x128, .f32⟩
  | .hbm, ⟨59, _⟩ => ⟨S320000x128, .i1⟩
  | .hbm, ⟨60, _⟩ => ⟨S_, .f32⟩
  | .hbm, ⟨61, _⟩ => ⟨S320000x128, .f32⟩
  | .hbm, ⟨62, _⟩ => ⟨S320000x128, .f32⟩
  | .hbm, ⟨63, _⟩ => ⟨S320000x128, .f32⟩
  | .hbm, ⟨64, _⟩ => ⟨S320000x128, .f32⟩
  | .hbm, ⟨65, _⟩ => ⟨S_, .f32⟩
  | .hbm, ⟨66, _⟩ => ⟨S320000, .f32⟩
  | .hbm, ⟨67, _⟩ => ⟨S320000, .f32⟩
  | .hbm, ⟨68, _⟩ => ⟨S320000, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_call0_c : Ref sig .tc := ⟨.hbm, 15, rfl⟩
abbrev main_call0_v0 : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_c_1 : Ref sig .tc := ⟨.hbm, 23, rfl⟩
abbrev main_call0_c_2 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_3 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_call0_cst : Ref sig .tc := ⟨.hbm, 35, rfl⟩
abbrev main_call0_v15 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_call1_c : Ref sig .tc := ⟨.hbm, 40, rfl⟩
abbrev main_call1_v0 : Ref sig .tc := ⟨.hbm, 41, rfl⟩
abbrev main_call1_v1 : Ref sig .tc := ⟨.hbm, 42, rfl⟩
abbrev main_call1_c_0 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_call1_v5 : Ref sig .tc := ⟨.hbm, 47, rfl⟩
abbrev main_call1_c_1 : Ref sig .tc := ⟨.hbm, 48, rfl⟩
abbrev main_call1_c_2 : Ref sig .tc := ⟨.hbm, 49, rfl⟩
abbrev main_call1_v6 : Ref sig .tc := ⟨.hbm, 50, rfl⟩
abbrev main_call1_v7 : Ref sig .tc := ⟨.hbm, 51, rfl⟩
abbrev main_call1_v8 : Ref sig .tc := ⟨.hbm, 52, rfl⟩
abbrev main_call1_v9 : Ref sig .tc := ⟨.hbm, 53, rfl⟩
abbrev main_call1_v10 : Ref sig .tc := ⟨.hbm, 54, rfl⟩
abbrev main_call1_v11 : Ref sig .tc := ⟨.hbm, 55, rfl⟩
abbrev main_call1_c_3 : Ref sig .tc := ⟨.hbm, 56, rfl⟩
abbrev main_call1_v12 : Ref sig .tc := ⟨.hbm, 57, rfl⟩
abbrev main_call1_v13 : Ref sig .tc := ⟨.hbm, 58, rfl⟩
abbrev main_call1_v14 : Ref sig .tc := ⟨.hbm, 59, rfl⟩
abbrev main_call1_cst : Ref sig .tc := ⟨.hbm, 60, rfl⟩
abbrev main_call1_v15 : Ref sig .tc := ⟨.hbm, 61, rfl⟩
abbrev main_v14 : Ref sig .tc := ⟨.hbm, 62, rfl⟩
abbrev main_v15 : Ref sig .tc := ⟨.hbm, 63, rfl⟩
abbrev main_v16 : Ref sig .tc := ⟨.hbm, 64, rfl⟩
abbrev main_cst : Ref sig .tc := ⟨.hbm, 65, rfl⟩
abbrev main_v17 : Ref sig .tc := ⟨.hbm, 66, rfl⟩
abbrev main_v18 : Ref sig .tc := ⟨.hbm, 67, rfl⟩
abbrev main_v19 : Ref sig .tc := ⟨.hbm, 68, rfl⟩
abbrev main_cst_1 : Ref sig .tc := ⟨.hbm, 69, rfl⟩
abbrev main_v20 : Ref sig .tc := ⟨.hbm, 70, rfl⟩
abbrev main_cst_2 : Ref sig .tc := ⟨.hbm, 71, rfl⟩
abbrev main_v21 : Ref sig .tc := ⟨.hbm, 72, rfl⟩
abbrev main_v22 : Ref sig .tc := ⟨.hbm, 73, rfl⟩

abbrev nD : Nat := 1
abbrev τ : Topo := Topo.v7x

variable {F : FTy → Type} [FloatOps F]
-- ==== Proof.Edge.Vals.lean ====
/-
  The kernel's numbers as plain functions of the two argument arrays, at any float instance: the words of the edge
  list, the rows they name, the term an edge adds to one lane of one column group, the mask an edge adds to one lane of
  the count, and the running sums a tile keeps of them. Both programs' proofs state what their buffers hold in these
  terms.
-/
module

public import Idealize.ShloMosaic.PureOps
public import Idealize.ShloMosaic.Lib.ValueIdxCore

@[expose] public section

noncomputable section

namespace Cert.Edge

open Idealize.ShloMosaic Idealize.ShloMosaic.ValueIdx

/-- The shape of the table of predictions. -/
abbrev SX : Shape := ⟨2, ![10000, 128]⟩
/-- The shape of the edge list: the sources' row and the destinations' row. -/
abbrev SE : Shape := ⟨2, ![2, 320000]⟩
/-- The shape of the tiles' results: a row of sixteen lanes for each of the thirty-two tiles. -/
abbrev SR : Shape := ⟨2, ![32, 16]⟩

variable {F : FTy → Type} [FloatOps F]

/-- The word at edge `e` of row `r` of the edge list. -/
def word (E : SE.Idx → BitVec 32) (r : Fin 2) (e : ℕ) : BitVec 32 := E (ix2 r ⟨e % 320000, Nat.mod_lt _ (by decide)⟩)

/-- Row `r` of the edge list as an array of its own. -/
def rowOf (E : SE.Idx → BitVec 32) (r : Fin 2) : (⟨1, ![320000]⟩ : Shape).Idx → BitVec 32 := fun x => word E r (x 0).val

/-- Entry `c` of the table's row that the word `w` names. -/
def pick (X : SX.Idx → F .f32) (w : BitVec 32) (c : ℕ) : F .f32 :=
  X (ix2 ⟨w.toNat % 10000, Nat.mod_lt _ (by decide)⟩ ⟨c % 128, Nat.mod_lt _ (by decide)⟩)

/-- The running sum of `f`'s first `n` values, from zero, in order. -/
def fsum (f : ℕ → F .f32) : ℕ → F .f32
  | 0 => Scalar.ofBits .f32 0x00000000#32
  | n + 1 => FloatOps.addf (fsum f n) (f n)

/-- The squared difference. -/
def sqd (a b : F .f32) : F .f32 := FloatOps.mulf (FloatOps.subf a b) (FloatOps.subf a b)

/-- What edge `n` of tile `w` adds to lane `l` of column group `j`. -/
def term (X : SX.Idx → F .f32) (E : SE.Idx → BitVec 32) (w j l n : ℕ) : F .f32 :=
  sqd (pick X (word E 0 (10000 * w + n)) (16 * j + l)) (pick X (word E 1 (10000 * w + n)) (16 * j + l))

/-- One when the pair of words is not (0, 0), else zero. -/
def flag (a b : BitVec 32) : F .f32 :=
  Scalar.select (Scalar.ori (IntOp.cmpi .ne a 0#32) (IntOp.cmpi .ne b 0#32)) (Scalar.ofBits .f32 0x3F800000#32) (Scalar.ofBits .f32 0x00000000#32)

/-- What the `n`-th group of sixteen edges of tile `w` adds to lane `l` of the count. -/
def mask (E : SE.Idx → BitVec 32) (w l n : ℕ) : F .f32 :=
  flag (word E 0 (10000 * w + 16 * n + l)) (word E 1 (10000 * w + 16 * n + l))

/-- Lane `l` of the row of sums tile `w` leaves: the eight column groups' running sums over its ten thousand edges, added up. -/
def tileSum (X : SX.Idx → F .f32) (E : SE.Idx → BitVec 32) (w l : ℕ) : F .f32 :=
  let s : ℕ → F .f32 := fun j => fsum (term X E w j l) 10000
  FloatOps.addf (FloatOps.addf (FloatOps.addf (FloatOps.addf (FloatOps.addf (FloatOps.addf (FloatOps.addf (s 0) (s 1)) (s 2)) (s 3)) (s 4)) (s 5)) (s 6)) (s 7)

/-- Lane `l` of the row of counts tile `w` leaves. -/
def tileCnt (E : SE.Idx → BitVec 32) (w l : ℕ) : F .f32 := fsum (mask E w l) 625

/-- The array of the tiles' sums. -/
def sumsOf (X : SX.Idx → F .f32) (E : SE.Idx → BitVec 32) : SR.Idx → F .f32 := fun x => tileSum X E (x 0).val (x 1).val
/-- The array of the tiles' counts. -/
def cntsOf (E : SE.Idx → BitVec 32) : SR.Idx → F .f32 := fun x => tileCnt E (x 0).val (x 1).val

/-- Every word of the edge list names a row of the table. -/
def InRange (E : SE.Idx → BitVec 32) : Prop := ∀ x, (E x).toNat < 10000

theorem InRange.word {E : SE.Idx → BitVec 32} (h : InRange E) (r : Fin 2) (e : ℕ) : (Edge.word E r e).toNat < 10000 := h _

end Cert.Edge
-- ==== Proof.Edge.Pre.lean ====
/-
  The preconditions read: every end of every edge names a row of the table, and the table's row 0 is finite.
-/
module

public import proofs.«01_k».proof.Proof.Edge.Vals
public import proofs.«01_k».proof.Proof.Gen.Pre_edges_in_range
public import proofs.«01_k».proof.Proof.Gen.Pre_in_range_row0_finite
public import Idealize.ShloMosaic.Lib.ReduceAll
public import Idealize.ShloMosaic.Lib.WordCmp
public import Idealize.ShloMosaic.Lib.ValueLayout
public import Idealize.ShloMosaic.Lib.IdealHost

@[expose] public section

noncomputable section

namespace Cert.Edge

open Idealize.ShloMosaic Idealize.ShloMosaic.ValueIdx Idealize.ShloMosaic.WordCmp

variable {F : FTy → Type} [FloatOps F]

/-- A word at least 0 and below 10000, both signed, is a natural below 10000. -/
theorem lt_of_cmp (x : BitVec 32) (h : IntOp.andi (IntOp.cmpi .sge x 0#32) (IntOp.cmpi .slt x 10000#32) = 1#1) : x.toNat < 10000 := by
  have e := andi_sge_zero_slt_ofNat (w := 32) (k := 10000) (by decide) x
  rw [show BitVec.ofNat 32 10000 = 10000#32 from rfl, h] at e
  by_contra hn
  rw [decide_eq_false hn] at e
  exact absurd e (by decide)

/-- The range precondition, read. -/
theorem inRange_of_pre (X : SX.Idx → F .f32) (E : SE.Idx → BitVec 32) (h : Cert.Pre_edges_in_range.fn (F := F) X E = fun _ => 1#1) : InRange E := by
  intro x
  have e := congrFun h (fun a => a.elim0)
  unfold Cert.Pre_edges_in_range.fn at e
  exact lt_of_cmp _ (Host.reduce_andi_all (t := Cert.Pre_edges_in_range.S_) _ _ _ _ _ e x)

/-- The stronger precondition gives the range too. -/
theorem inRange_of_pre' (X : SX.Idx → F .f32) (E : SE.Idx → BitVec 32) (h : Cert.Pre_in_range_row0_finite.fn (F := F) X E = fun _ => 1#1) : InRange E := by
  intro x
  have e := congrFun h (fun a => a.elim0)
  unfold Cert.Pre_in_range_row0_finite.fn at e
  exact lt_of_cmp _ (Host.reduce_andi_all (t := Cert.Pre_in_range_row0_finite.S_) _ _ _ _ _ (IntOp.andi_eq_one.1 e).1 x)

/-- A number whose absolute value is below the word of infinity is neither infinity. -/
theorem finite_of_lt (x : Ideal .f32) (h : FloatOps.cmpf .olt (FloatOps.hostAbsf x) (Scalar.ofBits .f32 0x7F800000#32 : Ideal .f32) = 1#1) :
    (x : EReal) ≠ ⊤ ∧ (x : EReal) ≠ ⊥ := by
  have htop : Ideal.ofBits .f32 0x7F800000#32 = ⊤ := by simp [Ideal.ofBits, Ideal.ieee]
  have hlt : max (x : EReal) (-(x : EReal)) < ⊤ := by
    have e : BitVec.ofBool (decide (max (x : EReal) (-(x : EReal)) < Ideal.ofBits .f32 0x7F800000#32)) = 1#1 := h
    rw [htop] at e
    exact (ofBool_decide_eq_one_iff _).1 e
  refine ⟨fun hx => ?_, fun hx => ?_⟩ <;> rw [hx] at hlt <;> simp at hlt

/-- The stronger precondition's second half: the table's row 0 is finite. -/
theorem row0_of_pre' (X : SX.Idx → Ideal .f32) (E : SE.Idx → BitVec 32) (h : Cert.Pre_in_range_row0_finite.fn (F := Ideal) X E = fun _ => 1#1) (k : Fin 128) :
    (X (ix2 0 k) : EReal) ≠ ⊤ ∧ (X (ix2 0 k) : EReal) ≠ ⊥ := by
  have e := congrFun h (fun a => a.elim0)
  unfold Cert.Pre_in_range_row0_finite.fn at e
  have f := Host.reduce_andi_all (t := Cert.Pre_in_range_row0_finite.S_) _ _ _ _ _ (IntOp.andi_eq_one.1 e).2 (ix1 k)
  have hx : shapeCast Cert.Pre_in_range_row0_finite.S128 (extractStridedSlice Cert.Pre_in_range_row0_finite.S1x128 ![0, 0] X Cert.Pre_in_range_row0_finite.Facts.slices_S10000x128_S1x128_0_0)
      Cert.Pre_in_range_row0_finite.Facts.shapeCasts_S1x128_S128 (ix1 k) = X (ix2 0 k) := by
    rw [shapeCast_1a_a_apply]
    refine extractStridedSlice_apply _ X _ _ (ix2 0 k) fun a => ?_
    match a with
    | ⟨0, _⟩ => rfl
    | ⟨1, _⟩ => exact (Nat.zero_add _).symm
  refine finite_of_lt _ ?_
  rw [← hx]
  exact f

end Cert.Edge
-- ==== Proof.KernelIdeal.Base.lean ====
/-
  The set-up of the kernel's proof: the program as the launch theorem reads it, the ghost state, the arrays and the
  tile's buffers by name, and the vectors a tile carries through its loops.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.Edge.Vals

@[expose] public section

noncomputable section

namespace Cert.KernelIdeal.Run

open Cert.KernelIdeal Cert.KernelIdeal.Gen Cert.Edge

open Idealize.ShloMosaic Idealize.ShloMosaic.ValueIdx
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's own semaphores and tables are as the launch theorem asks. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds, the pipeline's rounds, the transfers' counters -/

abbrev UH : Type := URounds (GSem nD τ sig) ℕ
abbrev UP : Type := URounds (GSem nD τ sig) Unit
abbrev UU : Type := UH × (UP × Counters)

/-- The separation-logic model the proof runs in. -/
abbrev 𝕄 (F : FTy → Type) : Type := MT nD τ sig (HIx 1) (Elt F) ℕ UU ℕ

/-! ## The arrays -/

abbrev pLoc (d : Dev nD) : Loc nD τ sig := (SparseCore.T d).loc main_arg0
abbrev eLoc (d : Dev nD) : Loc nD τ sig := (SparseCore.T d).loc main_arg1
abbrev sLoc (d : Dev nD) : Loc nD τ sig := (SparseCore.T d).loc main_v1
abbrev tLoc (d : Dev nD) : Loc nD τ sig := (SparseCore.T d).loc main_v3
abbrev uLoc (d : Dev nD) : Loc nD τ sig := (SparseCore.T d).loc main_v4_0
abbrev cLoc (d : Dev nD) : Loc nD τ sig := (SparseCore.T d).loc main_v4_1

abbrev pV : Memref sig .scVector .hbm S10000x128 .f32 := Memref.whole main_arg0_scv
abbrev sV : Memref sig .scVector .hbm S320000 .i32 := Memref.whole main_v1_scv
abbrev tV : Memref sig .scVector .hbm S320000 .i32 := Memref.whole main_v3_scv
abbrev uV : Memref sig .scVector .hbm S32x16 .f32 := Memref.whole main_v4_0_scv
abbrev cV : Memref sig .scVector .hbm S32x16 .f32 := Memref.whole main_v4_1_scv
abbrev aV : Memref sig .scVector .vmem S80 .i32 := Memref.whole cc0_scratch0
abbrev bV : Memref sig .scVector .vmem S80 .i32 := Memref.whole cc0_scratch1
abbrev gV : Memref sig .scVector .vmem S80x128 .f32 := Memref.whole cc0_scratch2
abbrev hV : Memref sig .scVector .vmem S80x128 .f32 := Memref.whole cc0_scratch3
abbrev yV : Memref sig .scVector .vmem S16 .f32 := Memref.whole cc0_scratch4
abbrev zV : Memref sig .scVector .vmem S16 .f32 := Memref.whole cc0_scratch5

/-! ## The tile and its thread -/

abbrev cT (L : grid0.Coords) : Fin τ.nSC := (L 0).castLE hcore0
abbrev jT (L : grid0.Coords) : Fin τ.nSub := (L 1).castLE hsub0
/-- The thread of the tile at coordinates `L` on device `d`. -/
abbrev tile (d : Dev nD) (L : grid0.Coords) : Thread nD τ := V d (cT L) (jT L)
/-- The tile's number: which ten thousand edges are its own, which row of the results. -/
def wid (L : grid0.Coords) : ℕ := 2 * (L 1).val + (L 0).val

theorem wid_lt (L : grid0.Coords) : wid L < 32 := by
  have h0 : (L 0).val < 2 := (L 0).isLt
  have h1 : (L 1).val < 16 := (L 1).isLt
  unfold wid; omega

/-! ## The vectors a tile carries -/

section Vecs

variable [FloatOps F] (X : SX.Idx → F .f32) (E : SE.Idx → BitVec 32) (w : ℕ)

/-- Column group `j`'s lanes after `n` edges. -/
def accV (j n : ℕ) : FVec F S16 .f32 := fun x => fsum (term X E w j (x 0).val) n
/-- The count's lanes after `n` groups of sixteen edges. -/
def cntV (n : ℕ) : FVec F S16 .f32 := fun x => fsum (mask E w (x 0).val) n

/-- The eight column groups after `n` edges. -/
def accs (n : ℕ) : FVec F S16 .f32 × FVec F S16 .f32 × FVec F S16 .f32 × FVec F S16 .f32 × FVec F S16 .f32 × FVec F S16 .f32 × FVec F S16 .f32 × FVec F S16 .f32 :=
  (accV X E w 0 n, accV X E w 1 n, accV X E w 2 n, accV X E w 3 n, accV X E w 4 n, accV X E w 5 n, accV X E w 6 n, accV X E w 7 n)

end Vecs

end Cert.KernelIdeal.Run
-- ==== Proof.KernelIdeal.Loops.lean ====
/-
  The two inner loops of a chunk: the count's, over the chunk's two lists of words, and the sums', over the chunk's two
  blocks of rows.
-/
module

public import proofs.«01_k».proof.Proof.KernelIdeal.Base

@[expose] public section

noncomputable section

namespace Cert.KernelIdeal.Run

open Cert.KernelIdeal Cert.KernelIdeal.Gen Cert.Edge

open Idealize.ShloMosaic Idealize.ShloMosaic.ValueIdx
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable (d : Dev nD) (L : grid0.Coords)
variable (X : SX.Idx → F .f32) (E : SE.Idx → BitVec 32)

/-- The matching of the sixteen lanes with a row of one by sixteen. -/
theorem lane_row (hc : S1x16.ShapeCasts S16) (x : S16.Idx) : ((Shape.reshapeEquiv hc x) 0).val = 0 ∧ ((Shape.reshapeEquiv hc x) 1).val = (x 0).val := by
  have h : Shape.reshapeEquiv hc x = Fin.cons ⟨0, Nat.one_pos⟩ x := Shape.reshapeEquiv_cons_one (d := ![16]) hc x
  rw [h]; exact ⟨rfl, rfl⟩

/-- What a load of the sixteen columns from `16 j` of row `k` of a block reads at lane `x`. -/
theorem load_row_g (f : Buf (Elt F) ((tile d L).loc cc0_scratch2)) {off : Fin S80x128.rank → ℕ} (inb : ∀ a, off a + S1x16.size a ≤ S80x128.size a)
    (x : S16.Idx) (k j : ℕ) (hk : k < 80) (hj : j < 8) (hoff : off = ![k, 16 * j]) :
    shapeCast S16 (View.readAt (Elt F) (Memref.whole cc0_scratch2).view (Rect.unit (s := S80x128) off S1x16.size inb).toLoadRect f) shapeCasts_S1x16_S16 x
      = f (ix2 ⟨k, hk⟩ ⟨16 * j + (x 0).val, by have : (x 0).val < 16 := (x 0).isLt; omega⟩) := by
  subst hoff
  obtain ⟨h0, h1⟩ := lane_row shapeCasts_S1x16_S16 x
  unfold shapeCast
  rw [View.readAt_apply]
  show f _ = f _
  refine congrArg f (funext fun a => Fin.ext ?_)
  match a with
  | ⟨0, _⟩ => show k + 1 * ((Shape.reshapeEquiv shapeCasts_S1x16_S16 x) 0).val = k; omega
  | ⟨1, _⟩ => show 16 * j + 1 * ((Shape.reshapeEquiv shapeCasts_S1x16_S16 x) 1).val = 16 * j + (x 0).val; omega

/-- The same of the other block. -/
theorem load_row_h (f : Buf (Elt F) ((tile d L).loc cc0_scratch3)) {off : Fin S80x128.rank → ℕ} (inb : ∀ a, off a + S1x16.size a ≤ S80x128.size a)
    (x : S16.Idx) (k j : ℕ) (hk : k < 80) (hj : j < 8) (hoff : off = ![k, 16 * j]) :
    shapeCast S16 (View.readAt (Elt F) (Memref.whole cc0_scratch3).view (Rect.unit (s := S80x128) off S1x16.size inb).toLoadRect f) shapeCasts_S1x16_S16 x
      = f (ix2 ⟨k, hk⟩ ⟨16 * j + (x 0).val, by have : (x 0).val < 16 := (x 0).isLt; omega⟩) :=
  load_row_g d L f inb x k j hk hj hoff

/-- One trip adds the chunk's edge `k` to column group `j`. -/
theorem acc_step (b k j : ℕ) (hk : k < 80) (hj : j < 8) (fg : Buf (Elt F) ((tile d L).loc cc0_scratch2)) (fh : Buf (Elt F) ((tile d L).loc cc0_scratch3))
    (hg : ∀ (r : Fin 80) (c : Fin 128), fg (ix2 r c) = pick X (word E 0 (10000 * wid L + (b + r.val))) c.val)
    (hh : ∀ (r : Fin 80) (c : Fin 128), fh (ix2 r c) = pick X (word E 1 (10000 * wid L + (b + r.val))) c.val)
    {off : Fin S80x128.rank → ℕ} (hoff : off = ![k, 16 * j]) (inb : ∀ a, off a + S1x16.size a ≤ S80x128.size a) :
    (fun x => FloatOps.addf (accV X E (wid L) j (b + k) x) (sqd
        (shapeCast S16 (View.readAt (Elt F) (Memref.whole cc0_scratch2).view (Rect.unit (s := S80x128) off S1x16.size inb).toLoadRect fg) shapeCasts_S1x16_S16 x)
        (shapeCast S16 (View.readAt (Elt F) (Memref.whole cc0_scratch3).view (Rect.unit (s := S80x128) off S1x16.size inb).toLoadRect fh) shapeCasts_S1x16_S16 x)))
      = accV X E (wid L) j (b + (k + 1)) := by
  funext x
  rw [load_row_g d L fg inb x k j hk hj hoff, load_row_h d L fh inb x k j hk hj hoff, hg, hh]
  rfl

/-- Trip `k` of the sums' loop of a chunk from edge `b`: the two row buffers kept, the eight groups at `b + k` edges. -/
def inv3 (b : ℕ) (fg : Buf (Elt F) ((tile d L).loc cc0_scratch2)) (fh : Buf (Elt F) ((tile d L).loc cc0_scratch3)) (k : Nat)
    (c : FVec F S16 .f32 × FVec F S16 .f32 × FVec F S16 .f32 × FVec F S16 .f32 × FVec F S16 .f32 × FVec F S16 .f32 × FVec F S16 .f32 × FVec F S16 .f32) : sProp (𝕄 F) :=
  iprop(⌜c = accs X E (wid L) (b + k)⌝
    ∗ (gV.view.loc (tile d L) ↦{fullShare} fg) ∗ (hV.view.loc (tile d L) ↦{fullShare} fh))

/-- The sums' loop. -/
theorem loop3 (b : ℕ) (fg : Buf (Elt F) ((tile d L).loc cc0_scratch2)) (fh : Buf (Elt F) ((tile d L).loc cc0_scratch3))
    (hg : ∀ (r : Fin 80) (c : Fin 128), fg (ix2 r c) = pick X (word E 0 (10000 * wid L + (b + r.val))) c.val)
    (hh : ∀ (r : Fin 80) (c : Fin 128), fh (ix2 r c) = pick X (word E 1 (10000 * wid L + (b + r.val))) c.val) :
    iprop((gV.view.loc (tile d L) ↦{fullShare} fg) ∗ (hV.view.loc (tile d L) ↦{fullShare} fh))
      ⊢ (wp frame (wpE (defs₀ (F := F)) 𝒱₀ (tile d L) none) Set.univ
          (Scf.Loop.for k0_t3_loop k0_t3_ok (accs X E (wid L) b)
            (k0_t3_body L pV (Memref.isWhole_whole _) sV (Memref.isWhole_whole _) tV (Memref.isWhole_whole _) uV (Memref.isWhole_whole _) cV (Memref.isWhole_whole _)
              aV (Memref.isWhole_whole _) bV (Memref.isWhole_whole _) gV (Memref.isWhole_whole _) hV (Memref.isWhole_whole _) yV (Memref.isWhole_whole _) zV (Memref.isWhole_whole _)
              cc0_scratch6 cc0_scoped0 cc0_scoped1 cc0_scoped2 cc0_scoped3))
          fun c => iprop(⌜c = accs X E (wid L) (b + 80)⌝
            ∗ (gV.view.loc (tile d L) ↦{fullShare} fg) ∗ (hV.view.loc (tile d L) ↦{fullShare} fh)) : sProp (𝕄 F)) := by
  iintro ⟨Hg, Hh⟩
  sl_for (inv3 d L X E b fg fh) $$ [Hg Hh]
  case region =>
    intro k c
    unfold inv3
    iintro ⟨%hc, Hg, Hh⟩
    unfold accs at hc
    subst hc
    unfold loop3.sl.prog.body_1 k0_t3_body
    rw [k0_part1_eq_skeleton]
    unfold k0_part1_skel
    unfold gV hV
    sl_exec
    sl_step
    isplitr
    · ipureintro
      have hk : k.val < 80 := lt_of_lt_of_le k.isLt k0_t3_abs.2.1
      unfold accs
      refine Prod.ext (acc_step d L X E b k.val 0 hk (by decide) fg fh hg hh (k0_off3_eq k) _) ?_
      refine Prod.ext (acc_step d L X E b k.val 1 hk (by decide) fg fh hg hh (k0_off4_eq k) _) ?_
      refine Prod.ext (acc_step d L X E b k.val 2 hk (by decide) fg fh hg hh (k0_off5_eq k) _) ?_
      refine Prod.ext (acc_step d L X E b k.val 3 hk (by decide) fg fh hg hh (k0_off6_eq k) _) ?_
      refine Prod.ext (acc_step d L X E b k.val 4 hk (by decide) fg fh hg hh (k0_off7_eq k) _) ?_
      refine Prod.ext (acc_step d L X E b k.val 5 hk (by decide) fg fh hg hh (k0_off8_eq k) _) ?_
      refine Prod.ext (acc_step d L X E b k.val 6 hk (by decide) fg fh hg hh (k0_off9_eq k) _) ?_
      exact acc_step d L X E b k.val 7 hk (by decide) fg fh hg hh (k0_off10_eq k) _
    isplitl [Hg]; · iexact Hg
    iexact Hh
  · unfold inv3
    isplitl [Hg Hh]
    · isplitr; · ipureintro; rfl
      isplitl [Hg]; · iexact Hg
      iexact Hh
    iintro %c HI
    iexact HI

/-- What a load of the sixteen words from `16 k` of a list reads at lane `x`. -/
theorem load_word_a (f : Buf (Elt F) ((tile d L).loc cc0_scratch0)) {off : Fin S80.rank → ℕ} (inb : ∀ a, off a + S16.size a ≤ S80.size a)
    (x : S16.Idx) (k : ℕ) (hk : k < 5) (hoff : off = ![16 * k]) :
    shapeCast S16 (View.readAt (Elt F) (Memref.whole cc0_scratch0).view (Rect.unit (s := S80) off S16.size inb).toLoadRect f) shapeCasts_S16_S16 x
      = f (ix1 ⟨16 * k + (x 0).val, by have : (x 0).val < 16 := (x 0).isLt; omega⟩) := by
  subst hoff
  unfold shapeCast
  rw [Shape.reshapeEquiv_self, View.readAt_apply]
  show f _ = f _
  refine congrArg f (funext fun a => Fin.ext ?_)
  match a with
  | ⟨0, _⟩ => show 16 * k + 1 * (x 0).val = 16 * k + (x 0).val; omega

/-- The same of the other list. -/
theorem load_word_b (f : Buf (Elt F) ((tile d L).loc cc0_scratch1)) {off : Fin S80.rank → ℕ} (inb : ∀ a, off a + S16.size a ≤ S80.size a)
    (x : S16.Idx) (k : ℕ) (hk : k < 5) (hoff : off = ![16 * k]) :
    shapeCast S16 (View.readAt (Elt F) (Memref.whole cc0_scratch1).view (Rect.unit (s := S80) off S16.size inb).toLoadRect f) shapeCasts_S16_S16 x
      = f (ix1 ⟨16 * k + (x 0).val, by have : (x 0).val < 16 := (x 0).isLt; omega⟩) :=
  load_word_a (F := F) d L f inb x k hk hoff

/-- One trip adds group `k` of chunk `i` to the count. -/
theorem cnt_step (i k : ℕ) (hk : k < 5) (fa : Buf (Elt F) ((tile d L).loc cc0_scratch0)) (fb : Buf (Elt F) ((tile d L).loc cc0_scratch1))
    (ha : ∀ r : Fin 80, fa (ix1 r) = word E 0 (10000 * wid L + (80 * i + r.val)))
    (hb : ∀ r : Fin 80, fb (ix1 r) = word E 1 (10000 * wid L + (80 * i + r.val)))
    {off : Fin S80.rank → ℕ} (hoff : off = ![16 * k]) (inb : ∀ a, off a + S16.size a ≤ S80.size a) :
    k0_pay8 (cntV (F := F) E (wid L) (5 * i + k))
        (View.readAt (Elt F) (Memref.whole cc0_scratch0).view (Rect.unit (s := S80) off S16.size inb).toLoadRect fa)
        (View.readAt (Elt F) (Memref.whole cc0_scratch1).view (Rect.unit (s := S80) off S16.size inb).toLoadRect fb)
      = cntV E (wid L) (5 * i + (k + 1)) := by
  funext x
  show FloatOps.addf (cntV (F := F) E (wid L) (5 * i + k) x) (flag
    (shapeCast S16 (View.readAt (Elt F) (Memref.whole cc0_scratch0).view (Rect.unit (s := S80) off S16.size inb).toLoadRect fa) shapeCasts_S16_S16 x)
    (shapeCast S16 (View.readAt (Elt F) (Memref.whole cc0_scratch1).view (Rect.unit (s := S80) off S16.size inb).toLoadRect fb) shapeCasts_S16_S16 x)) = _
  rw [load_word_a d L fa inb x k hk hoff, load_word_b d L fb inb x k hk hoff, ha, hb]
  show _ = FloatOps.addf (cntV (F := F) E (wid L) (5 * i + k) x) (mask E (wid L) (x 0).val (5 * i + k))
  unfold mask
  rw [show 10000 * wid L + 16 * (5 * i + k) + (x 0).val = 10000 * wid L + (80 * i + (16 * k + (x 0).val)) by omega]

/-- Trip `k` of the count's loop of chunk `i`: the two lists kept, the count at `5 i + k` groups. -/
def inv2 (i : ℕ) (fa : Buf (Elt F) ((tile d L).loc cc0_scratch0)) (fb : Buf (Elt F) ((tile d L).loc cc0_scratch1)) (k : Nat)
    (c : FVec F S16 .f32) : sProp (𝕄 F) :=
  iprop(⌜c = cntV E (wid L) (5 * i + k)⌝
    ∗ (aV.view.loc (tile d L) ↦{fullShare} fa) ∗ (bV.view.loc (tile d L) ↦{fullShare} fb))

/-- The count's loop. -/
theorem loop2 (i : ℕ) (fa : Buf (Elt F) ((tile d L).loc cc0_scratch0)) (fb : Buf (Elt F) ((tile d L).loc cc0_scratch1))
    (ha : ∀ r : Fin 80, fa (ix1 r) = word E 0 (10000 * wid L + (80 * i + r.val)))
    (hb : ∀ r : Fin 80, fb (ix1 r) = word E 1 (10000 * wid L + (80 * i + r.val))) :
    iprop((aV.view.loc (tile d L) ↦{fullShare} fa) ∗ (bV.view.loc (tile d L) ↦{fullShare} fb))
      ⊢ (wp frame (wpE (defs₀ (F := F)) 𝒱₀ (tile d L) none) Set.univ
          (Scf.Loop.for k0_t2_loop k0_t2_ok (cntV E (wid L) (5 * i))
            (k0_t2_body L pV (Memref.isWhole_whole _) sV (Memref.isWhole_whole _) tV (Memref.isWhole_whole _) uV (Memref.isWhole_whole _) cV (Memref.isWhole_whole _)
              aV (Memref.isWhole_whole _) bV (Memref.isWhole_whole _) gV (Memref.isWhole_whole _) hV (Memref.isWhole_whole _) yV (Memref.isWhole_whole _) zV (Memref.isWhole_whole _)
              cc0_scratch6 cc0_scoped0 cc0_scoped1 cc0_scoped2 cc0_scoped3))
          fun c => iprop(⌜c = cntV E (wid L) (5 * (i + 1))⌝
            ∗ (aV.view.loc (tile d L) ↦{fullShare} fa) ∗ (bV.view.loc (tile d L) ↦{fullShare} fb)) : sProp (𝕄 F)) := by
  iintro ⟨Ha, Hb⟩
  sl_for (inv2 d L E i fa fb) $$ [Ha Hb]
  case region =>
    intro k c
    unfold inv2
    iintro ⟨%hc, Ha, Hb⟩
    subst hc
    unfold loop2.sl.prog.body_1 k0_t2_body
    unfold aV bV
    sl_exec
    sl_step
    isplitr
    · ipureintro
      exact cnt_step d L E i k.val (lt_of_lt_of_le k.isLt k0_t2_abs.2.1) fa fb ha hb (k0_off2_eq k) _
    isplitl [Ha]; · iexact Ha
    iexact Hb
  · unfold inv2
    isplitl [Ha Hb]
    · isplitr; · ipureintro; rfl
      isplitl [Ha]; · iexact Ha
      iexact Hb
    iintro %c HI
    iexact HI

end Cert.KernelIdeal.Run
-- ==== Proof.KernelIdeal.Tile.lean ====
/-
  A tile's chunk of eighty edges: two fetches of words, two gathers of rows, the two inner loops.
-/
module

public import proofs.«01_k».proof.Proof.KernelIdeal.Loops

@[expose] public section

noncomputable section

namespace Cert.KernelIdeal.Run

open Cert.KernelIdeal Cert.KernelIdeal.Gen Cert.Edge

open Idealize.ShloMosaic Idealize.ShloMosaic.ValueIdx
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable (d : Dev nD) (L : grid0.Coords)
variable (X : SX.Idx → F .f32) (E : SE.Idx → BitVec 32)

/-- What a tile carries after `i` chunks. -/
def carry (i : ℕ) : FVec F S16 .f32 × FVec F S16 .f32 × FVec F S16 .f32 × FVec F S16 .f32 × FVec F S16 .f32 × FVec F S16 .f32 × FVec F S16 .f32 × FVec F S16 .f32 × FVec F S16 .f32 :=
  (accV X E (wid L) 0 (80 * i), accV X E (wid L) 1 (80 * i), accV X E (wid L) 2 (80 * i), accV X E (wid L) 3 (80 * i),
    accV X E (wid L) 4 (80 * i), accV X E (wid L) 5 (80 * i), accV X E (wid L) 6 (80 * i), accV X E (wid L) 7 (80 * i), cntV E (wid L) (5 * i))

/-- What a chunk works on: the table and the two lists of words, at a share each; the tile's four buffers; the three
    semaphores at zero; the record of its waits. -/
def work (q : PosShare TreeShare) (O : CellTallies nD τ sig (HIx 1)) (W : Waits sig (HIx 1)) : sProp (𝕄 F) :=
  iprop(Transfers.MayWaits (tile d L) (none : HIx 1) O
    ∗ ((Memref.whole main_arg0_scv : Memref sig .scVector .hbm S10000x128 .f32).view.loc (tile d L) ↦{q} (X : Buf (Elt F) (pLoc d)))
    ∗ ((Memref.whole main_v1_scv : Memref sig .scVector .hbm S320000 .i32).view.loc (tile d L) ↦{q} (rowOf E 0 : Buf (Elt F) (sLoc d)))
    ∗ ((Memref.whole main_v3_scv : Memref sig .scVector .hbm S320000 .i32).view.loc (tile d L) ↦{q} (rowOf E 1 : Buf (Elt F) (tLoc d)))
    ∗ (∃ f, (Memref.whole cc0_scratch0 : Memref sig .scVector .vmem S80 .i32).view.loc (tile d L) ↦{fullShare} f)
    ∗ (∃ f, (Memref.whole cc0_scratch1 : Memref sig .scVector .vmem S80 .i32).view.loc (tile d L) ↦{fullShare} f)
    ∗ (∃ f, (Memref.whole cc0_scratch2 : Memref sig .scVector .vmem S80x128 .f32).view.loc (tile d L) ↦{fullShare} f)
    ∗ (∃ f, (Memref.whole cc0_scratch3 : Memref sig .scVector .vmem S80x128 .f32).view.loc (tile d L) ↦{fullShare} f)
    ∗ semVal (tile d L, SemLoc.dma cc0_scratch6.sem) 0
    ∗ semVal (tile d L, SemLoc.dma cc0_scoped0.sem) 0
    ∗ semVal (tile d L, SemLoc.dma cc0_scoped1.sem) 0
    ∗ ∃ W', ⌜∀ p ∈ W', p ∈ W ∨ p.2 = none⌝ ∗ owes (tile d L) O W')

/-- The words a fetch of chunk `i` brings are the list's words at the chunk's edges. -/
theorem fetched_s (i : Fin k0_t1_loop.trips) (r : Fin 80) :
    ((Memref.whole main_v1_scv : Memref sig .scVector .hbm S320000 .i32).slice
      (Rect.unit (s := S320000) (k0_off1 L i) S80.size (k0_off1_inb L i)) (fun _ => rfl)).view.read (Elt F) (rowOf E 0 : Buf (Elt F) (sLoc d)) (ix1 r)
      = word E 0 (10000 * wid L + (80 * i.val + r.val)) := by
  have hi : i.val < 125 := lt_of_lt_of_le i.isLt k0_t1_abs.2.1
  rw [View.read_apply]
  show word E 0 (k0_off1 L i 0 + 1 * r.val) = _
  rw [k0_off1_eq]
  show word E 0 (20000 * (L 1).val + 10000 * (L 0).val + 80 * i.val + 1 * r.val) = _
  congr 1; unfold wid; omega

/-- The same of the other list. -/
theorem fetched_t (i : Fin k0_t1_loop.trips) (r : Fin 80) :
    ((Memref.whole main_v3_scv : Memref sig .scVector .hbm S320000 .i32).slice
      (Rect.unit (s := S320000) (k0_off1 L i) S80.size (k0_off1_inb L i)) (fun _ => rfl)).view.read (Elt F) (rowOf E 1 : Buf (Elt F) (tLoc d)) (ix1 r)
      = word E 1 (10000 * wid L + (80 * i.val + r.val)) := by
  have hi : i.val < 125 := lt_of_lt_of_le i.isLt k0_t1_abs.2.1
  rw [View.read_apply]
  show word E 1 (k0_off1 L i 0 + 1 * r.val) = _
  rw [k0_off1_eq]
  show word E 1 (20000 * (L 1).val + 10000 * (L 0).val + 80 * i.val + 1 * r.val) = _
  congr 1; unfold wid; omega

/-- The table read as the whole of itself. -/
theorem table_read (y : S10000x128.Idx) :
    ((Memref.whole main_arg0_scv : Memref sig .scVector .hbm S10000x128 .f32).slice
      (Rect.unit (s := S10000x128) ![0, 0] S10000x128.size inb_S10000x128_S10000x128_0_0) (fun _ => rfl)).view.read (Elt F) (X : Buf (Elt F) (pLoc (0 : Dev nD))) y = X y := by
  rw [View.read_apply]
  show X _ = X y
  refine congrArg X (funext fun a => Fin.ext ?_)
  match a with
  | ⟨0, _⟩ => show 0 + 1 * (y 0).val = (y 0).val; omega
  | ⟨1, _⟩ => show 0 + 1 * (y 1).val = (y 1).val; omega

/-- What a gather through an in-range list of words brings: each row of the table that the list names, in the list's order. -/
theorem gathered (r : Fin 2) (b : ℕ) (idx : S80.Idx → Elt F .i32) (hidx : ∀ k : Fin 80, idx (ix1 k) = word E r (10000 * wid L + (b + k.val)))
    (hn : S80.numel = S80x128.size gathers_S10000x128_S80x128.axis') (h : ∀ x, (idx x).toNat < S10000x128.size gathers_S10000x128_S80x128.axis)
    (g : S10000x128.Idx → Elt F .f32) (hg : ∀ y, g y = X y) (k : Fin 80) (c : Fin 128) :
    SparseCore.gatherPayload (F := F) (e := .f32) gathers_S10000x128_S80x128 g (SparseCore.rows (F := F) idx hn h) (ix2 k c)
      = pick X (word E r (10000 * wid L + (b + k.val))) c.val := by
  have hk : S80.rowMajor.symm (Fin.cast hn.symm k) = ix1 k := by
    rw [Equiv.symm_apply_eq]
    exact Fin.ext (Shape.rowMajor_val_one (d := ![80]) (ix1 k)).symm
  have hw := h (ix1 k)
  unfold SparseCore.gatherPayload pick
  rw [hg]
  refine congrArg X (funext fun a => Fin.ext ?_)
  match a with
  | ⟨0, _⟩ =>
    show ((idx (S80.rowMajor.symm (Fin.cast hn.symm k))).toNat) = (word E r (10000 * wid L + (b + k.val))).toNat % 10000
    rw [hk, ← hidx k]
    exact (Nat.mod_eq_of_lt hw).symm
  | ⟨1, _⟩ =>
    show c.val = c.val % 128
    exact (Nat.mod_eq_of_lt c.isLt).symm

/-- The chunk. -/
theorem chunk (hE : InRange E) (q : PosShare TreeShare) (O : CellTallies nD τ sig (HIx 1)) (W : Waits sig (HIx 1)) (i : Fin k0_t1_loop.trips) :
    work d L X E q O W
      ⊢ (wp frame (wpE (defs₀ (F := F)) 𝒱₀ (tile d L) none) Set.univ
          (k0_t1_body L pV (Memref.isWhole_whole _) sV (Memref.isWhole_whole _) tV (Memref.isWhole_whole _) uV (Memref.isWhole_whole _) cV (Memref.isWhole_whole _)
              aV (Memref.isWhole_whole _) bV (Memref.isWhole_whole _) gV (Memref.isWhole_whole _) hV (Memref.isWhole_whole _) yV (Memref.isWhole_whole _) zV (Memref.isWhole_whole _)
              cc0_scratch6 cc0_scoped0 cc0_scoped1 cc0_scoped2 cc0_scoped3 i (carry L X E i.val))
          fun c => iprop(⌜c = carry L X E (i.val + 1)⌝ ∗ work d L X E q O W) : sProp (𝕄 F)) := by
  unfold work
  iintro ⟨Hmw, Hp, Hs, Ht, ⟨%fa, Ha⟩, ⟨%fb, Hb⟩, ⟨%fg, Hg⟩, ⟨%fh, Hh⟩, Hm6, Hm0, Hm1, %W', %hW', HO⟩
  unfold k0_t1_body carry
  unfold pV sV tV aV bV gV hV
  sl_exec (disch := exact View.amount_pos _ _ (show 0 < S80.numel by decide))
  obtain ⟨ga, hga, ha⟩ : ∃ ga : Buf (Elt F) ((tile d L).loc cc0_scratch0), View.write (Elt F) (Memref.whole cc0_scratch0).view fa (chunk.sl.dma0 L E i) Finset.univ = ga
      ∧ ∀ r : Fin 80, ga (ix1 r) = word E 0 (10000 * wid L + (80 * i.val + r.val)) :=
    ⟨_, rfl, fun r => by
      rw [View.write_whole_univ]; exact fetched_s (F := F) L E i r⟩
  obtain ⟨gb, hgb, hb⟩ : ∃ gb : Buf (Elt F) ((tile d L).loc cc0_scratch1), View.write (Elt F) (Memref.whole cc0_scratch1).view fb (chunk.sl.dma0_1 L E i) Finset.univ = gb
      ∧ ∀ r : Fin 80, gb (ix1 r) = word E 1 (10000 * wid L + (80 * i.val + r.val)) :=
    ⟨_, rfl, fun r => by
      rw [View.write_whole_univ]; exact fetched_t (F := F) L E i r⟩
  rw [hga, hgb]
  have hina : ∀ x, ((Memref.whole cc0_scratch0 : Memref sig .scVector .vmem S80 .i32).view.read (Elt F) ga x).toNat < S10000x128.size gathers_S10000x128_S80x128.axis := fun x => by
    have e : ga x = _ := (congrArg ga (eq_ix1 x)).trans (ha (x 0))
    show (ga x).toNat < 10000
    rw [e]; exact hE.word _ _
  have hinb : ∀ x, ((Memref.whole cc0_scratch1 : Memref sig .scVector .vmem S80 .i32).view.read (Elt F) gb x).toNat < S10000x128.size gathers_S10000x128_S80x128.axis := fun x => by
    have e : gb x = _ := (congrArg gb (eq_ix1 x)).trans (hb (x 0))
    show (gb x).toNat < 10000
    rw [e]; exact hE.word _ _
  sl_exec (disch := exact View.amount_pos _ _ (show 0 < S80x128.numel by decide))
  obtain ⟨gg, hgg, hg⟩ : ∃ gg : Buf (Elt F) ((tile d L).loc cc0_scratch2),
      (Memref.whole cc0_scratch2 : Memref sig .scVector .vmem S80x128 .f32).view.writes (Elt F) (Memref.whole cc0_scratch2 : Memref sig .scVector .vmem S80x128 .f32).view.junk
        [⟨Rect.whole cc0_scratch2.ty.shape, chunk.sl.gather0 d L X ga hina⟩] = gg
      ∧ ∀ (r : Fin 80) (c : Fin 128), gg (ix2 r c) = pick X (word E 0 (10000 * wid L + (80 * i.val + r.val))) c.val :=
    ⟨_, rfl, fun r c => by
      rw [← View.write_univ_eq_writes_whole, View.writes_nil, View.write_whole_univ]
      exact gathered L X E 0 (80 * i.val) ga ha _ hina _ (table_read X) r c⟩
  obtain ⟨gh, hgh, hh⟩ : ∃ gh : Buf (Elt F) ((tile d L).loc cc0_scratch3),
      (Memref.whole cc0_scratch3 : Memref sig .scVector .vmem S80x128 .f32).view.writes (Elt F) (Memref.whole cc0_scratch3 : Memref sig .scVector .vmem S80x128 .f32).view.junk
        [⟨Rect.whole cc0_scratch3.ty.shape, chunk.sl.gather1 d L X gb hinb⟩] = gh
      ∧ ∀ (r : Fin 80) (c : Fin 128), gh (ix2 r c) = pick X (word E 1 (10000 * wid L + (80 * i.val + r.val))) c.val :=
    ⟨_, rfl, fun r c => by
      rw [← View.write_univ_eq_writes_whole, View.writes_nil, View.write_whole_univ]
      exact gathered L X E 1 (80 * i.val) gb hb _ hinb _ (table_read X) r c⟩
  rw [hgg, hgh, wp_bind]
  iapply (wp_wand_r _ _ _)
  isplitl [Ha Hb]
  · iapply (loop2 d L E i.val ga gb ha hb)
    isplitl [Ha]; · iexact Ha
    iexact Hb
  iintro %c2 ⟨%hc2, Ha, Hb⟩
  subst hc2
  rw [wp_bind]
  iapply (wp_wand_r _ _ _)
  isplitl [Hg Hh]
  · iapply (loop3 d L X E (80 * i.val) gg gh hg hh)
    isplitl [Hg]; · iexact Hg
    iexact Hh
  iintro %c3 ⟨%hc3, Hg, Hh⟩
  unfold accs at hc3
  subst hc3
  sl_exec
  sl_step
  isplitr
  · ipureintro; rfl
  isplitl [Hmw]; · iexact Hmw
  isplitl [Hp]; · iexact Hp
  isplitl [Hs]; · iexact Hs
  isplitl [Ht]; · iexact Ht
  isplitl [Ha]; · iexists _; iexact Ha
  isplitl [Hb]; · iexists _; iexact Hb
  isplitl [Hg]; · iexists _; iexact Hg
  isplitl [Hh]; · iexists _; iexact Hh
  isplitl [Hm6]; · iexact Hm6
  isplitl [Hm0]; · iexact Hm0
  isplitl [Hm1]; · iexact Hm1
  iexists _; isplitr
  swap; · iexact HO
  ipureintro; intro p hp
  simp only [Finset.mem_insert] at hp
  rcases hp with hp | hp | hp | hp | hp
  · exact .inr (hp ▸ rfl)
  · exact .inr (hp ▸ rfl)
  · exact .inr (hp ▸ rfl)
  · exact .inr (hp ▸ rfl)
  · exact hW' p hp

end Cert.KernelIdeal.Run
-- ==== Proof.KernelIdeal.Body.lean ====
/-
  A tile's body: the loop over the chunks, the tile's two rows of results, its own buffers and semaphores, and the
  write-out of the rows.
-/
module

public import proofs.«01_k».proof.Proof.KernelIdeal.Tile
public import Idealize.ShloMosaic.Lib.Pipeline.Value

@[expose] public section

noncomputable section

namespace Cert.KernelIdeal.Run

open Cert.KernelIdeal Cert.KernelIdeal.Gen Cert.Edge

open Idealize.ShloMosaic Idealize.ShloMosaic.ValueIdx
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable (d : Dev nD) (L : grid0.Coords)
variable (X : SX.Idx → F .f32) (E : SE.Idx → BitVec 32)

/-! ## The loop over the chunks -/

/-- Trip `i` of the chunks' loop: what the tile carries after `i` chunks, and what a chunk works on. -/
def inv1 (q : PosShare TreeShare) (O : CellTallies nD τ sig (HIx 1)) (W : Waits sig (HIx 1)) (i : Nat)
    (c : FVec F S16 .f32 × FVec F S16 .f32 × FVec F S16 .f32 × FVec F S16 .f32 × FVec F S16 .f32 × FVec F S16 .f32 × FVec F S16 .f32 × FVec F S16 .f32 × FVec F S16 .f32) : sProp (𝕄 F) :=
  iprop(⌜c = carry L X E i⌝ ∗ work d L X E q O W)

/-- The chunks' loop. -/
theorem loop1 (hE : InRange E) (q : PosShare TreeShare) (O : CellTallies nD τ sig (HIx 1)) (W : Waits sig (HIx 1)) :
    work d L X E q O W
      ⊢ (wp frame (wpE (defs₀ (F := F)) 𝒱₀ (tile d L) none) Set.univ
          (Scf.Loop.for k0_t1_loop k0_t1_ok (k0_pay7 (F := F), k0_pay7 (F := F), k0_pay7 (F := F), k0_pay7 (F := F), k0_pay7 (F := F), k0_pay7 (F := F), k0_pay7 (F := F), k0_pay7 (F := F), k0_pay7 (F := F))
            (k0_t1_body L pV (Memref.isWhole_whole _) sV (Memref.isWhole_whole _) tV (Memref.isWhole_whole _) uV (Memref.isWhole_whole _) cV (Memref.isWhole_whole _)
              aV (Memref.isWhole_whole _) bV (Memref.isWhole_whole _) gV (Memref.isWhole_whole _) hV (Memref.isWhole_whole _) yV (Memref.isWhole_whole _) zV (Memref.isWhole_whole _)
              cc0_scratch6 cc0_scoped0 cc0_scoped1 cc0_scoped2 cc0_scoped3))
          fun c => iprop(⌜c = carry L X E 125⌝ ∗ work d L X E q O W) : sProp (𝕄 F)) := by
  iintro Hw
  sl_for (inv1 d L X E q O W) $$ [Hw]
  case region =>
    intro i c
    unfold inv1
    iintro ⟨%hc, Hw⟩
    subst hc
    unfold loop1.sl.prog.body_1
    iapply (chunk d L X E hE q O W i)
    iexact Hw
  · unfold inv1
    isplitl [Hw]
    · isplitr; · ipureintro; rfl
      iexact Hw
    iintro %c HI
    iexact HI

/-! ## The tile's row of a result -/

theorem div32 : 32 ∣ S32x16.size 0 := ⟨1, rfl⟩
/-- Row `w` of a results array. -/
abbrev row (w : Fin 32) : Rect S32x16 := Rect.part (s := S32x16) (a₀ := 0) div32 w
abbrev rowSet (w : Fin 32) : Finset S32x16.Idx := (row w).set
/-- The tile's row, by number. -/
abbrev wL (L : grid0.Coords) : Fin 32 := ⟨wid L, wid_lt L⟩

abbrev rowK (L : grid0.Coords) : Rect S32x16 := Rect.unit (s := S32x16) (k0_off11 L) S1x16.size (k0_off11_inb L)

theorem rowK_eq : rowK L = row (wL L) := by
  unfold rowK row Rect.part Rect.block
  congr 1 <;> funext a
  · rw [k0_off11_eq]
    match a with
    | 0 => simp [Shape.partIx, Shape.partSize, wid]
    | 1 => simp [Shape.partIx, Shape.partSize]
  · match a with
    | 0 => simp [Shape.partSize]
    | 1 => simp [Shape.partSize]

/-- The tile's row of the sums and of the counts, as the tile addresses them. -/
abbrev uRowK (L : grid0.Coords) : Memref sig .scVector .hbm S16 .f32 :=
  ((Memref.whole main_v4_0_scv : Memref sig .scVector .hbm S32x16 .f32).slice (Rect.unit (s := S32x16) (k0_off11 L) S1x16.size (k0_off11_inb L)) (fun _ => rfl)).squeeze S16 squeezes_S1x16_S16
abbrev cRowK (L : grid0.Coords) : Memref sig .scVector .hbm S16 .f32 :=
  ((Memref.whole main_v4_1_scv : Memref sig .scVector .hbm S32x16 .f32).slice (Rect.unit (s := S32x16) (k0_off11 L) S1x16.size (k0_off11_inb L)) (fun _ => rfl)).squeeze S16 squeezes_S1x16_S16

theorem set_uRowK : (uRowK L).view.set = rowSet (wL L) := by
  show (((Memref.whole main_v4_0_scv : Memref sig .scVector .hbm S32x16 .f32).view.slice (rowK L)).reshape S16 squeezes_S1x16_S16.numel_eq).set = _
  rw [View.set_reshape, View.set_slice]
  exact Finset.map_refl.trans (congrArg (fun r : Rect S32x16 => r.set) (rowK_eq L))
theorem set_cRowK : (cRowK L).view.set = rowSet (wL L) := by
  show (((Memref.whole main_v4_1_scv : Memref sig .scVector .hbm S32x16 .f32).view.slice (rowK L)).reshape S16 squeezes_S1x16_S16.numel_eq).set = _
  rw [View.set_reshape, View.set_slice]
  exact Finset.map_refl.trans (congrArg (fun r : Rect S32x16 => r.set) (rowK_eq L))

omit [FloatOps F] in
theorem pts_uRowK (f : Buf (Elt F) (uLoc d)) :
    ((uRowK L).view.loc (tile d L) ↦[(uRowK L).view.set]{fullShare} f : sProp (𝕄 F)) = uLoc d ↦[rowSet (wL L)]{fullShare} f := by
  rw [set_uRowK]
omit [FloatOps F] in
theorem pts_cRowK (f : Buf (Elt F) (cLoc d)) :
    ((cRowK L).view.loc (tile d L) ↦[(cRowK L).view.set]{fullShare} f : sProp (𝕄 F)) = cLoc d ↦[rowSet (wL L)]{fullShare} f := by
  rw [set_cRowK]

/-- Lane `x` of the tile's row of the sums is row `wid L`, column `x`. -/
theorem emb_uRowK (x : S16.Idx) : (uRowK L).view.emb x = (ix2 ⟨wid L, wid_lt L⟩ (x 0) : S32x16.Idx) := by
  have h : Shape.reshapeEquiv squeezes_S1x16_S16.numel_eq x = Fin.cons ⟨0, Nat.one_pos⟩ x := Shape.reshapeEquiv_cons_one _ x
  show (rowK L).emb (Shape.reshapeEquiv squeezes_S1x16_S16.numel_eq x) = _
  rw [h]
  refine funext fun a => Fin.ext ?_
  match a with
  | ⟨0, _⟩ =>
    show k0_off11 L 0 + 0 * 1 = wid L
    rw [k0_off11_eq]; simp [wid]
  | ⟨1, _⟩ =>
    show k0_off11 L 1 + 1 * (x 0).val = (x 0).val
    rw [k0_off11_eq]; simp
/-- Lane `x` of the tile's row of the counts is row `wid L`, column `x`. -/
theorem emb_cRowK (x : S16.Idx) : (cRowK L).view.emb x = (ix2 ⟨wid L, wid_lt L⟩ (x 0) : S32x16.Idx) := emb_uRowK L x

/-- Writing the row's lane sums over the row leaves the sums there. -/
theorem row_sums (f : Buf (Elt F) (uLoc d)) (w : S16.Idx → F .f32) (hw : ∀ x, w x = tileSum X E (wid L) (x 0).val) :
    ∀ i ∈ (uRowK L).view.set, (uRowK L).view.writes (Elt F) f [⟨Rect.whole S16, w⟩] i = (sumsOf X E : Buf (Elt F) (uLoc d)) i := by
  intro i hi
  obtain ⟨x, -, rfl⟩ := Finset.mem_map.mp hi
  rw [← View.write_univ_eq_writes_whole, View.writes_nil, View.write_emb_of_mem _ _ (Finset.mem_univ _), emb_uRowK]
  exact hw x
/-- Writing the row's lane counts over the row leaves the counts there. -/
theorem row_cnts (f : Buf (Elt F) (cLoc d)) (w : S16.Idx → F .f32) (hw : ∀ x, w x = tileCnt E (wid L) (x 0).val) :
    ∀ i ∈ (cRowK L).view.set, (cRowK L).view.writes (Elt F) f [⟨Rect.whole S16, w⟩] i = (cntsOf E : Buf (Elt F) (cLoc d)) i := by
  intro i hi
  obtain ⟨x, -, rfl⟩ := Finset.mem_map.mp hi
  rw [← View.write_univ_eq_writes_whole, View.writes_nil, View.write_emb_of_mem _ _ (Finset.mem_univ _), emb_cRowK]
  exact hw x

omit [FloatOps F] in
/-- What is read of sixteen lanes after they are stored is what was stored. -/
theorem lane_store (v : View sig .scVector .vmem S16 .f32) (f : v.ty.Contents (Elt F)) (w : S16.Idx → F .f32) (x : S16.Idx) :
    v.read (Elt F) (v.writes (Elt F) f [⟨Rect.unit (s := S16) ![0] S16.size inb_S16_S16_0, w⟩]) x = w x := by
  have h : (Rect.unit (s := S16) ![0] S16.size inb_S16_S16_0).emb x = x := by
    refine funext fun a => Fin.ext ?_
    match a with
    | ⟨0, _⟩ => show 0 + 1 * (x 0).val = (x 0).val; omega
  have e : v.emb x = (v.slice (Rect.unit (s := S16) ![0] S16.size inb_S16_S16_0)).emb x := by
    show v.emb x = v.emb ((Rect.unit (s := S16) ![0] S16.size inb_S16_S16_0).emb x)
    exact congrArg v.emb h.symm
  rw [View.writes_singleton, View.read_apply, e, View.write_emb_of_mem _ _ (Finset.mem_univ _), cast_cast, cast_eq]

/-! ## The tile's own semaphores and buffers -/

abbrev cell6 : GSem nD τ sig := (tile d L, .dma cc0_scratch6.sem)
abbrev cell0 : GSem nD τ sig := (tile d L, .dma cc0_scoped0.sem)
abbrev cell1 : GSem nD τ sig := (tile d L, .dma cc0_scoped1.sem)
abbrev cell2 : GSem nD τ sig := (tile d L, .dma cc0_scoped2.sem)
abbrev cell3 : GSem nD τ sig := (tile d L, .dma cc0_scoped3.sem)

omit [FloatOps F] in
/-- The five transfer semaphores the tile uses are among its own. -/
theorem ownSems0_tile :
    (ownSems0 (tile d L) : sProp (𝕄 F))
      = iprop(semVal (cell6 d L) 0 ∗ semVal (cell0 d L) 0 ∗ semVal (cell1 d L) 0 ∗ semVal (cell2 d L) 0 ∗ semVal (cell3 d L) 0
          ∗ bigSep ((((((ownCells (tile d L)).erase (cell6 d L)).erase (cell0 d L)).erase (cell1 d L)).erase (cell2 d L)).erase (cell3 d L)) fun g => semVal g 0) := by
  have m6 : cell6 d L ∈ ownCells (tile d L) := mem_ownCells.mpr ⟨rfl, by show (SemLoc.dma cc0_scratch6.sem : SemLoc sig).isScoped .scVector = true; decide⟩
  have m0 : cell0 d L ∈ ownCells (tile d L) := mem_ownCells.mpr ⟨rfl, by show (SemLoc.dma cc0_scoped0.sem : SemLoc sig).isScoped .scVector = true; decide⟩
  have m1 : cell1 d L ∈ ownCells (tile d L) := mem_ownCells.mpr ⟨rfl, by show (SemLoc.dma cc0_scoped1.sem : SemLoc sig).isScoped .scVector = true; decide⟩
  have m2 : cell2 d L ∈ ownCells (tile d L) := mem_ownCells.mpr ⟨rfl, by show (SemLoc.dma cc0_scoped2.sem : SemLoc sig).isScoped .scVector = true; decide⟩
  have m3 : cell3 d L ∈ ownCells (tile d L) := mem_ownCells.mpr ⟨rfl, by show (SemLoc.dma cc0_scoped3.sem : SemLoc sig).isScoped .scVector = true; decide⟩
  have ne : ∀ {a b : DmaSem sig}, a ≠ b → ((tile d L, SemLoc.dma a) : GSem nD τ sig) ≠ (tile d L, SemLoc.dma b) :=
    fun h e => h (SemLoc.dma.inj (Prod.mk.inj e).2)
  unfold SparseCore.Cfg.ownSems0
  rw [SparseCore.bigSep_erase' m6,
    SparseCore.bigSep_erase' (Finset.mem_erase.mpr ⟨ne (by decide), m0⟩),
    SparseCore.bigSep_erase' (Finset.mem_erase.mpr ⟨ne (by decide), Finset.mem_erase.mpr ⟨ne (by decide), m1⟩⟩),
    SparseCore.bigSep_erase' (Finset.mem_erase.mpr ⟨ne (by decide), Finset.mem_erase.mpr ⟨ne (by decide), Finset.mem_erase.mpr ⟨ne (by decide), m2⟩⟩⟩),
    SparseCore.bigSep_erase' (Finset.mem_erase.mpr ⟨ne (by decide), Finset.mem_erase.mpr ⟨ne (by decide), Finset.mem_erase.mpr ⟨ne (by decide), Finset.mem_erase.mpr ⟨ne (by decide), m3⟩⟩⟩⟩)]

/-- A scratch of the tile, as one of the buffers it owns. -/
abbrev own (b : Ref sig .scVector) : DevRef τ sig := (Proc.scVector (cT L) (jT L)).devRef b

omit [FloatOps F] in
/-- The six scratch buffers are among the tile's own, at some contents each. -/
theorem ownBufs_tile :
    (ownBufs (tile d L) : sProp (𝕄 F))
      = iprop((∃ f, (tile d L).loc cc0_scratch0 ↦{fullShare} f) ∗ (∃ f, (tile d L).loc cc0_scratch1 ↦{fullShare} f)
          ∗ (∃ f, (tile d L).loc cc0_scratch2 ↦{fullShare} f) ∗ (∃ f, (tile d L).loc cc0_scratch3 ↦{fullShare} f)
          ∗ (∃ f, (tile d L).loc cc0_scratch4 ↦{fullShare} f) ∗ (∃ f, (tile d L).loc cc0_scratch5 ↦{fullShare} f)
          ∗ bigSep (((((((ownRefs (τ := τ) (.scVector (cT L) (jT L))).erase (own L cc0_scratch0)).erase (own L cc0_scratch1)).erase (own L cc0_scratch2)).erase
              (own L cc0_scratch3)).erase (own L cc0_scratch4)).erase (own L cc0_scratch5))
              fun b => iprop(∃ f, ((d, b) : Loc nD τ sig) ↦{fullShare} f)) := by
  have mem : ∀ b : Ref sig .scVector, (own L b).owner = .proc (.scVector (cT L) (jT L)) → own L b ∈ ownRefs (τ := τ) (.scVector (cT L) (jT L)) :=
    fun b h => SparseCore.Cfg.mem_ownRefs_of_owner (p := Proc.scVector (cT L) (jT L)) (b := own L b) h
  have ne : ∀ {a b : Ref sig .scVector}, a ≠ b → own L a ≠ own L b := fun h e => h (Proc.devRef_injective _ e)
  have m0 := mem cc0_scratch0 rfl
  have m1 := mem cc0_scratch1 rfl
  have m2 := mem cc0_scratch2 rfl
  have m3 := mem cc0_scratch3 rfl
  have m4 := mem cc0_scratch4 rfl
  have m5 := mem cc0_scratch5 rfl
  unfold SparseCore.Cfg.ownBufs
  refine (SparseCore.bigSep_erase' m0).trans ?_
  rw [SparseCore.bigSep_erase' (Finset.mem_erase.mpr ⟨ne (by decide), m1⟩),
    SparseCore.bigSep_erase' (Finset.mem_erase.mpr ⟨ne (by decide), Finset.mem_erase.mpr ⟨ne (by decide), m2⟩⟩),
    SparseCore.bigSep_erase' (Finset.mem_erase.mpr ⟨ne (by decide), Finset.mem_erase.mpr ⟨ne (by decide), Finset.mem_erase.mpr ⟨ne (by decide), m3⟩⟩⟩),
    SparseCore.bigSep_erase' (Finset.mem_erase.mpr ⟨ne (by decide), Finset.mem_erase.mpr ⟨ne (by decide), Finset.mem_erase.mpr ⟨ne (by decide), Finset.mem_erase.mpr ⟨ne (by decide), m4⟩⟩⟩⟩),
    SparseCore.bigSep_erase' (Finset.mem_erase.mpr ⟨ne (by decide), Finset.mem_erase.mpr ⟨ne (by decide), Finset.mem_erase.mpr ⟨ne (by decide), Finset.mem_erase.mpr ⟨ne (by decide), Finset.mem_erase.mpr ⟨ne (by decide), m5⟩⟩⟩⟩⟩)]

/-! ## The body -/

/-- What a tile takes: the table and the two lists at a share, its own row of each result. -/
def take (q : PosShare TreeShare) (w : Fin 32) (fu : Buf (Elt F) (uLoc d)) (fc : Buf (Elt F) (cLoc d)) : sProp (𝕄 F) :=
  iprop((pLoc d ↦{q} (X : Buf (Elt F) (pLoc d))) ∗ (sLoc d ↦{q} (rowOf E 0 : Buf (Elt F) (sLoc d))) ∗ (tLoc d ↦{q} (rowOf E 1 : Buf (Elt F) (tLoc d)))
    ∗ (uLoc d ↦[rowSet w]{fullShare} fu) ∗ (cLoc d ↦[rowSet w]{fullShare} fc))

/-- The body of the tile at `L`: its row of the sums and its row of the counts filled. -/
theorem tile_body (hF : (K (F := F)).Facts) (hE : InRange E) (q : PosShare TreeShare) (fu : Buf (Elt F) (uLoc d)) (fc : Buf (Elt F) (cLoc d))
    (O : CellTallies nD τ sig (HIx 1)) (W : Waits sig (HIx 1)) (hO : ∀ g, O g none = 0) :
    iprop(levAts (K (F := F)).L (K (F := F)).lev ∗ emp ∗ take d X E q (wL L) fu fc
        ∗ scopedBufs (tile d L) ∗ scopedSems0 (tile d L) ∗ owes (tile d L) O W)
      ⊢ (wp frame (wpE (defs₀ (F := F)) 𝒱₀ (tile d L) none) Set.univ
          (cc0__edge_partials L pV (Memref.isWhole_whole _) sV (Memref.isWhole_whole _) tV (Memref.isWhole_whole _) uV (Memref.isWhole_whole _) cV (Memref.isWhole_whole _)
              aV (Memref.isWhole_whole _) bV (Memref.isWhole_whole _) gV (Memref.isWhole_whole _) hV (Memref.isWhole_whole _) yV (Memref.isWhole_whole _) zV (Memref.isWhole_whole _)
              cc0_scratch6 cc0_scoped0 cc0_scoped1 cc0_scoped2 cc0_scoped3)
          fun _ => iprop(take d X E q (wL L) (sumsOf X E : Buf (Elt F) (uLoc d)) (cntsOf E : Buf (Elt F) (cLoc d))
            ∗ scopedBufs (tile d L) ∗ scopedSems0 (tile d L)
            ∗ ∃ W', ⌜∀ p ∈ W', p ∈ W ∨ p.2 = none⌝ ∗ owes (tile d L) O W') : sProp (𝕄 F)) := by
  rw [cc0__edge_partials_eq_skeleton]; unfold cc0__edge_partials_skel
  rw [k0_part2_eq_skeleton]; unfold k0_part2_skel take
  rw [(K (F := F)).scopedBufs_V hF d (cT L) (jT L), SparseCore.Cfg.scopedSems0_V (Val := Elt F) d (cT L) (jT L), ownSems0_tile, ownBufs_tile]
  iintro ⟨#Hlv, -, ⟨Hp, Hs, Ht, Hu, Hc⟩, ⟨⟨%fa, Ha⟩, ⟨%fb, Hb⟩, ⟨%fg, Hg⟩, ⟨%fh, Hh⟩, ⟨%fy, Hy⟩, ⟨%fz, Hz⟩, Hbufs⟩, ⟨Hm6, Hm0, Hm1, Hm2, Hm3, Hsems⟩, HO⟩
  ihave Hmw := (show levAts (K (F := F)).L (K (F := F)).lev ⊢ Transfers.MayWaits (tile d L) (none : HIx 1) O from
    (K (F := F)).mayWaits_none (thr := tile d L) hO) $$ Hlv
  ihave Hmw2 := (show levAts (K (F := F)).L (K (F := F)).lev ⊢ Transfers.MayWaits (tile d L) (none : HIx 1) O from
    (K (F := F)).mayWaits_none (thr := tile d L) hO) $$ Hlv
  rw [wp_bind, wp_bind]
  iapply (wp_wand_r _ _ _)
  isplitl [Hmw2 Hp Hs Ht Ha Hb Hg Hh Hm6 Hm0 Hm1 HO]
  · iapply (loop1 d L X E hE q O W)
    unfold work
    isplitl [Hmw2]; · iexact Hmw2
    isplitl [Hp]; · iexact Hp
    isplitl [Hs]; · iexact Hs
    isplitl [Ht]; · iexact Ht
    isplitl [Ha]; · iexists fa; iexact Ha
    isplitl [Hb]; · iexists fb; iexact Hb
    isplitl [Hg]; · iexists fg; iexact Hg
    isplitl [Hh]; · iexists fh; iexact Hh
    isplitl [Hm6]; · iexact Hm6
    isplitl [Hm0]; · iexact Hm0
    isplitl [Hm1]; · iexact Hm1
    iexists W; isplitr
    · ipureintro; exact fun p hp => .inl hp
    · iexact HO
  iintro %c ⟨%hc, Hw⟩
  unfold carry at hc
  subst hc
  unfold work
  icases Hw with ⟨-, Hp, Hs, Ht, ⟨%fa', Ha⟩, ⟨%fb', Hb⟩, ⟨%fg', Hg⟩, ⟨%fh', Hh⟩, Hm6, Hm0, Hm1, %W', %hW', HO⟩
  ihave Hu' := (Entails.of_eq (pts_uRowK (F := F) d L _).symm) $$ Hu
  ihave Hc' := (Entails.of_eq (pts_cRowK (F := F) d L _).symm) $$ Hc
  ihave Hy' := (Entails.of_eq (show ((tile d L).loc cc0_scratch4 ↦{fullShare} fy : sProp (𝕄 F))
    = (Memref.whole cc0_scratch4 : Memref sig .scVector .vmem S16 .f32).view.loc (tile d L) ↦{fullShare} fy from rfl)) $$ Hy
  ihave Hz' := (Entails.of_eq (show ((tile d L).loc cc0_scratch5 ↦{fullShare} fz : sProp (𝕄 F))
    = (Memref.whole cc0_scratch5 : Memref sig .scVector .vmem S16 .f32).view.loc (tile d L) ↦{fullShare} fz from rfl)) $$ Hz
  unfold uV cV yV zV
  sl_exec
  have hu : ∀ x : S16.Idx, tile_body.sl.dma4 d L X E fy x = tileSum X E (wid L) (x 0).val := by
    intro x
    unfold tile_body.sl.dma4 tile_body.sl.Hy'_1 k0_pay12
    exact lane_store _ _ _ x |>.trans (by rw [shapeCast_self]; rfl)
  have hc : ∀ x : S16.Idx, tile_body.sl.dma4_1 d L E fz x = tileCnt E (wid L) (x 0).val := by
    intro x
    unfold tile_body.sl.dma4_1 tile_body.sl.Hz'_1 k0_pay13
    exact lane_store _ _ _ x |>.trans (by rw [shapeCast_self]; rfl)
  ihave Hu'' := (Entails.of_eq (pointsTo_congr (row_sums d L X E fu _ hu))) $$ Hu'
  ihave Hc'' := (Entails.of_eq (pointsTo_congr (row_cnts d L E fc _ hc))) $$ Hc'
  ihave Hu := (Entails.of_eq (pts_uRowK (F := F) d L _)) $$ Hu''
  ihave Hc := (Entails.of_eq (pts_cRowK (F := F) d L _)) $$ Hc''
  sl_step
  isplitl [Hp Hs Ht Hu Hc]
  · isplitl [Hp]; · iexact Hp
    isplitl [Hs]; · iexact Hs
    isplitl [Ht]; · iexact Ht
    isplitl [Hu]; · iexact Hu
    iexact Hc
  isplitl [Ha Hb Hg Hh Hy' Hz' Hbufs]
  · isplitl [Ha]; · iexists _; iexact Ha
    isplitl [Hb]; · iexists _; iexact Hb
    isplitl [Hg]; · iexists _; iexact Hg
    isplitl [Hh]; · iexists _; iexact Hh
    isplitl [Hy']; · iexists _; iexact Hy'
    isplitl [Hz']; · iexists _; iexact Hz'
    iexact Hbufs
  isplitl [Hm6 Hm0 Hm1 Hm2 Hm3 Hsems]
  · isplitl [Hm6]; · iexact Hm6
    isplitl [Hm0]; · iexact Hm0
    isplitl [Hm1]; · iexact Hm1
    isplitl [Hm2]; · iexact Hm2
    isplitl [Hm3]; · iexact Hm3
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  exact hW' p hp

end Cert.KernelIdeal.Run
-- ==== Proof.KernelIdeal.Finish.lean ====
/-
  The finishing region on the TensorCore: the two 32-by-16 results summed and divided, into one word.
-/
module

public import proofs.«01_k».proof.Proof.KernelIdeal.Base
public import proofs.«01_k».proof.Proof.Gen.KernelIdeal.Launch
public import proofs.«01_k».proof.Proof.Gen.KernelIdeal.Points
public import Idealize.ShloMosaic.Lib.Pipeline.RegionArrays
public import Idealize.ShloMosaic.Lib.Pipeline.Value
public import Idealize.ShloMosaic.Lib.Writes

@[expose] public section

noncomputable section

namespace Cert.KernelIdeal.Run

open Cert.KernelIdeal Cert.KernelIdeal.Gen Cert.Edge

open Idealize.ShloMosaic Idealize.ShloMosaic.ValueIdx
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.TcCoe
open Idealize.ShloMosaic.Pipeline (Dat Cfg Window BodyObligation)

variable {F : FTy → Type} [FloatOps F]

/-- What the finishing body leaves: the sums' total over the counts' total. -/
def quot (A B : SR.Idx → F .f32) : S1x1.Idx → F .f32 := fun _ => k1_pay1 A B

variable (A B : SR.Idx → F .f32) (C : (c : Dev nD) → Buf (Elt F) ((c : Thread nD τ).loc main_v5))

/-- The pairs recorded before the region: those the launch protocol allows after its one call. -/
def recd (c : Dev nD) : Set (SemLoc sig × HIx 1) := {p | (K (F := F)).lev (SparseCore.T c, p.1) p.2 ≤ 8}

/-- The region's proof data: the two results as given, the word's old contents; afterwards the quotient. -/
def dat (c : Dev nD) : Dat τ (Elt F) (HIx 1) ℕ UU ℕ cfg1 c where
  A w := match w with
    | 0 => (A : Buf (Elt F) ((c : Thread nD τ).loc main_v4_0))
    | 1 => (B : Buf (Elt F) ((c : Thread nD τ).loc main_v4_1))
    | 2 => C c
  after w _ := match w with
    | 0 => A
    | 1 => B
    | 2 => quot A B
  Φ _ := Pipeline.scopedRest (Ix := HIx 1) (Name := ℕ) (U := UU) (Lvl := ℕ) (Val := Elt F) spec1 c
  q _ := fullShare
  owed _ := 0
  recorded _ := recd (F := F) c

/-- The fetched windows' buffers hold the two results when the body runs. -/
theorem before_0 (c : Dev nD) (d : (cfg1.win 0).block.Idx → Elt F (cfg1.win 0).elt) : (dat A B C c).before 0 t1_0 d = A := by
  have e : (dat A B C c).before 0 t1_0 d = ((cfg1.win 0).blk t1_0).view.read (Elt F) (A : Buf (Elt F) ((c : Thread nD τ).loc main_v4_0)) := by
    unfold Dat.before; rw [if_pos (by decide)]; rfl
  rw [e]; funext x
  show A _ = A _
  congr 1
  refine funext fun a => Fin.ext ?_
  match a with
  | ⟨0, _⟩ => show 0 + 1 * (x 0).val = _; exact (Nat.zero_add _).trans (Nat.one_mul _)
  | ⟨1, _⟩ => show 0 + 1 * (x 1).val = _; exact (Nat.zero_add _).trans (Nat.one_mul _)
theorem before_1 (c : Dev nD) (d : (cfg1.win 1).block.Idx → Elt F (cfg1.win 1).elt) : (dat A B C c).before 1 t1_0 d = B := by
  have e : (dat A B C c).before 1 t1_0 d = ((cfg1.win 1).blk t1_0).view.read (Elt F) (B : Buf (Elt F) ((c : Thread nD τ).loc main_v4_1)) := by
    unfold Dat.before; rw [if_pos (by decide)]; rfl
  rw [e]; funext x
  show B _ = B _
  congr 1
  refine funext fun a => Fin.ext ?_
  match a with
  | ⟨0, _⟩ => show 0 + 1 * (x 0).val = _; exact (Nat.zero_add _).trans (Nat.one_mul _)
  | ⟨1, _⟩ => show 0 + 1 * (x 1).val = _; exact (Nat.zero_add _).trans (Nat.one_mul _)

/-- A memref's buffer on core `c` held whole at `f`. -/
abbrev pt (c : Dev nD) {sp : Space} {S : Shape} {e : EltTy} (M : Memref sig .tc sp S e) (f : Buf (Elt F) (M.view.loc (c : Thread nD τ))) : sProp (𝕄 F) :=
  M.view.loc (c : Thread nD τ) ↦{fullShare} f

/-- The finishing body, run on three buffers held whole: the two results are as they were, and the word holds the quotient. -/
theorem fin_body (c : Dev nD) (f0 : Buf (Elt F) ((stage1_0 0).view.loc (c : Thread nD τ))) (f1 : Buf (Elt F) ((stage1_1 0).view.loc (c : Thread nD τ)))
    (f2 : Buf (Elt F) ((stage1_2 0).view.loc (c : Thread nD τ))) (Q : PUnit → sProp (𝕄 F)) :
    iprop(pt c (stage1_0 0) f0 ∗ pt c (stage1_1 0) f1 ∗ pt c (stage1_2 0) f2
        ∗ (iprop(pt c (stage1_0 0) f0 ∗ pt c (stage1_1 0) f1 ∗ pt c (stage1_2 0) (quot f0 f1)) -∗ Q ⟨⟩))
      ⊢ wp frame (wpE (defs₀ (F := F)) 𝒱₀ c none) Set.univ
          (cc1__finalize_body (stage1_0 0) (hstage1_0 0) (stage1_1 0) (hstage1_1 0) (stage1_2 0) (hstage1_2 0)) Q := by
  rw [cc1__finalize_body_eq_skeleton]; unfold cc1__finalize_body_skel
  iintro ⟨H0, H1, H2, Hk⟩
  sl_exec!
  have hq : (stage1_2 0).view.writes (Elt F) (stage1_2 0).view.junk (fin_body.sl.H2_1 c f0 f1) = quot f0 f1 := by
    funext y
    unfold fin_body.sl.H2_1
    have hy : (Rect.unit (s := S1x1) ![0, 0] S1x1.size inb_S1x1_S1x1_0_0).emb (y : S1x1.Idx) = (y : S1x1.Idx) := by
      refine funext fun a => Fin.ext ?_
      match a with
      | ⟨0, _⟩ => show 0 + 1 * (y 0).val = (y 0).val; exact (Nat.zero_add _).trans (Nat.one_mul _)
      | ⟨1, _⟩ => show 0 + 1 * (y 1).val = (y 1).val; exact (Nat.zero_add _).trans (Nat.one_mul _)
    have hr := View.read_writes_cons_hit (Val := Elt F) (stage1_2 0).view (stage1_2 0).view.junk (Rect.unit (s := S1x1) ![0, 0] S1x1.size inb_S1x1_S1x1_0_0)
      (fun _ => k1_pay1 (View.readAt (Elt F) (stage1_0 0).view (Rect.unit (s := S32x16) ![0, 0] S32x16.size inb_S32x16_S32x16_0_0).toLoadRect f0)
        (View.readAt (Elt F) (stage1_1 0).view (Rect.unit (s := S32x16) ![0, 0] S32x16.size inb_S32x16_S32x16_0_0).toLoadRect f1)) [] (y : S1x1.Idx) (y : S1x1.Idx) hy
    refine Eq.trans hr ?_
    have hz : (![0, 0] : Fin S32x16.rank → Nat) = fun _ => 0 := funext fun a => match a with | ⟨0, _⟩ => rfl | ⟨1, _⟩ => rfl
    exact congrArg₂ k1_pay1 (View.ld_unit_zero (Val := Elt F) (S := S32x16) (e := .f32) hz inb_S32x16_S32x16_0_0 f0)
      (View.ld_unit_zero (Val := Elt F) (S := S32x16) (e := .f32) hz inb_S32x16_S32x16_0_0 f1)
  rw [hq]
  sl_step
  iapply Hk
  isplitl [H0]; · iexact H0
  isplitl [H1]; · iexact H1
  iexact H2

theorem body_ok (c : Dev nD) : BodyObligation (dat A B C c) (defs₀ (F := F)) 𝒱₀ none Set.univ := fun t => by
  obtain rfl := fin_N1 t
  rw [bigSep_W1, bigSep_W1]
  simp only [owns_whole_eq]
  rw [show (dat A B C c).Φ t1_0.castSucc = (dat A B C c).Φ t1_0.succ from rfl,
    show (dat A B C c).owesAt none t1_0.succ = (dat A B C c).owesAt none t1_0.castSucc from rfl]
  iintro ⟨HΦ, Howes, ⟨%d0, %f0, %hf0, H0⟩, ⟨%d1, %f1, %hf1, H1⟩, ⟨%d2, %f2, -, H2⟩⟩
  rw [before_0] at hf0
  rw [before_1] at hf1
  subst hf0; subst hf1
  iapply (fin_body c _ _ f2 _)
  isplitl [H0]; · iexact H0
  isplitl [H1]; · iexact H1
  isplitl [H2]; · iexact H2
  iintro ⟨H0, H1, H2⟩
  isplitl [HΦ]; · iexact HΦ
  isplitl [Howes]; · iexact Howes
  isplitl [H0]; · iexists _; isplitr; swap; (· iexact H0); ipureintro; dsimp only [dat]
  isplitl [H1]; · iexists _; isplitr; swap; (· iexact H1); ipureintro; dsimp only [dat]
  iexists _; isplitr; swap; (· iexact H2); ipureintro; dsimp only [dat]

/-! ## The region -/

/-- The only choice of the (absent) prefetched tables. -/
abbrev adm : (p : Fin 1) → (pcfgs (F := F) p).Adm := fun p => (cfgs p).toPCfg_adm

def pdats : (p : Fin 1) → (c : Dev nD) → Dat τ (Elt F) (HIx 1) ℕ UU ℕ (Pipeline.pin (pcfgs (F := F)) adm p) c
  | ⟨0, _⟩ => fun c => dat A B C c
  | ⟨_ + 1, h⟩ => absurd h (Nat.not_lt.2 (Nat.le_add_left _ _))

/-- The region's arrays, one by one. -/
theorem arrays_eq (c : Dev nD) (f : (w : Fin cfg1.W) → Buf (Elt F) ((cfg1.win w).arr.view.loc (c.tc : Thread nD τ))) :
    (dat A B C c).arrays f = iprop(((c : Thread nD τ).loc main_v4_0 ↦{fullShare} f 0) ∗ ((c : Thread nD τ).loc main_v4_1 ↦{fullShare} f 1)
      ∗ ((c : Thread nD τ).loc main_v5 ↦{fullShare} f 2)) := by
  have hs : ∀ w, (dat A B C c).share w = fullShare := (dat A B C c).share_full fun _ => rfl
  have h0 : (cfg1.win 0).arr.view.set = Finset.univ := View.set_whole main_v4_0
  have h1 : (cfg1.win 1).arr.view.set = Finset.univ := View.set_whole main_v4_1
  have h2 : (cfg1.win 2).arr.view.set = Finset.univ := View.set_whole main_v5
  unfold Dat.arrays
  rw [bigSep_W1, hs, hs, hs, h0, h1, h2]

/-- The word's array after the region: the quotient. -/
theorem arr_out (c : Dev nD) : (dat A B C c).arrAt 2 cfg1.N = quot A B := by
  have e : (dat A B C c).arrAt 2 cfg1.N
      = ((cfg1.win 2).blk t1_0).view.write (Elt F) (C c) ((dat A B C c).flushed 2 t1_0) Finset.univ := by
    show (dat A B C c).arrAt 2 1 = _
    unfold Dat.arrAt
    rw [dif_pos (by decide : 0 < cfg1.N), if_pos (flush1_2 _)]
    rfl
  rw [e]
  funext y
  have hy : ((cfg1.win 2).blk t1_0).view.emb (y : S1x1.Idx) = y := by
    refine funext fun a => Fin.ext ?_
    match a with
    | ⟨0, _⟩ => show 0 + 1 * (y 0).val = _; exact (Nat.zero_add _).trans (Nat.one_mul _)
    | ⟨1, _⟩ => show 0 + 1 * (y 1).val = _; exact (Nat.zero_add _).trans (Nat.one_mul _)
  refine (congrArg _ hy.symm).trans ?_
  rw [View.write_emb_of_mem _ _ (Finset.mem_univ _)]
  rfl

set_option backward.isDefEq.respectTransparency.types false in
/-- The finishing region, entered holding the two results and the word, and left with the word at the quotient; the
    record of the waits stays within what the launch protocol allows. -/
def reg : Pipeline.RegionSeg (pcfgs (F := F)) adm (pdats A B C) none defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_ok A B C c).loose
  hwaits := Pipeline.hwaits_of_owed_zero _ _ _ _ _ _ 0 fun _ _ => rfl
  pre c := iprop(((c : Thread nD τ).loc main_v4_0 ↦{fullShare} A) ∗ ((c : Thread nD τ).loc main_v4_1 ↦{fullShare} B) ∗ ((c : Thread nD τ).loc main_v5 ↦{fullShare} C c)
    ∗ ∃ W, ⌜(K (F := F)).WBelow (SparseCore.T c) W 8⌝ ∗ owes (c : Thread nD τ) (0 : CellTallies nD τ sig (HIx 1)) W)
  post c := iprop(((c : Thread nD τ).loc main_v4_0 ↦{fullShare} A) ∗ ((c : Thread nD τ).loc main_v4_1 ↦{fullShare} B) ∗ ((c : Thread nD τ).loc main_v5 ↦{fullShare} quot A B)
    ∗ ∃ W, ⌜(K (F := F)).WBelow (SparseCore.T c) W 8⌝ ∗ owes (c : Thread nD τ) (0 : CellTallies nD τ sig (HIx 1)) W)
  X _ := BI.emp
  Y _ := BI.emp
  Z _ := BI.emp
  hentry c := by
    rw [Pipeline.ownSems0_none]
    rw [show (pdats A B C 0 c) = dat A B C c from rfl, arrays_eq]
    iintro ⟨⟨HA, HB, HC, HO⟩, -, -⟩
    imodintro
    isplitl [HA HB HC]
    · isplitl [HA]; · iexact HA
      isplitl [HB]; · iexact HB
      iexact HC
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iempintro
  hin c := by
    rw [show (pdats A B C 0 c).Φ 0 = Pipeline.scopedRest (Ix := HIx 1) (Name := ℕ) (U := UU) (Lvl := ℕ) (Val := Elt F) spec1 c from rfl]
    iintro ⟨-, -, Hr⟩; iexact Hr
  hout c := by
    rw [Pipeline.ownSems0_none, show (pdats A B C 0 c).Φ (Fin.last _) = Pipeline.scopedRest (Ix := HIx 1) (Name := ℕ) (U := UU) (Lvl := ℕ) (Val := Elt F) spec1 c from rfl]
    iintro Hr
    isplitr; · iempintro
    isplitr; · iempintro
    iexact Hr
  hexit c := by
    rw [show (pdats A B C 0 c) = dat A B C c from rfl, arrays_eq]
    rw [show (dat A B C c).arrAt 0 (Pipeline.pin (pcfgs (F := F)) adm 0).N = A from (dat A B C c).arrAt_in 0 rfl _,
      show (dat A B C c).arrAt 1 (Pipeline.pin (pcfgs (F := F)) adm 0).N = B from (dat A B C c).arrAt_in 1 rfl _,
      show (dat A B C c).arrAt 2 (Pipeline.pin (pcfgs (F := F)) adm 0).N = quot A B from arr_out A B C c]
    iintro ⟨⟨HA, HB, HC⟩, HO, -, -⟩
    imodintro
    isplitl [HA]; · iexact HA
    isplitl [HB]; · iexact HB
    isplitl [HC]; · iexact HC
    unfold Pipeline.Dat.owesAt Pipeline.owesWithin
    icases HO with ⟨%W, %hW, HO⟩; iexists W; isplitr
    · ipureintro
      intro p hp
      rcases hW hp with h | ⟨w, s, rfl⟩
      · exact h
      · exact Nat.zero_le _
    iexact HO

end Cert.KernelIdeal.Run
-- ==== Proof.KernelIdeal.Launch.lean ====
/-
  The SparseCore call: what its handshakes carry, each tile's obligation, the results dealt to the tiles row by row and
  joined back, and the launch element of the ghost state.
-/
module

public import proofs.«01_k».proof.Proof.KernelIdeal.Body
public import proofs.«01_k».proof.Proof.KernelIdeal.Finish

@[expose] public section

noncomputable section

namespace Cert.KernelIdeal.Run

open Cert.KernelIdeal Cert.KernelIdeal.Gen Cert.Edge

open Idealize.ShloMosaic Idealize.ShloMosaic.ValueIdx
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-- The handshakes' part of the ghost state, -/
abbrev EH : Emb UH (MT nD τ sig (HIx 1) (Elt F) ℕ UU ℕ) := embL
/-- and the pipeline's. -/
abbrev EP : Emb UP (MT nD τ sig (HIx 1) (Elt F) ℕ UU ℕ) := (Emb.inl : Emb UP (UP × Counters)).trans embR

variable [FloatOps F]

variable (m : (ℓ : Loc nD τ sig) → Buf (Elt F) ℓ) (ρ : Dev nD → PrngReg)

/-! ## The grid and the tiles -/

/-- The coordinates of SparseCore `c`, vector subcore `i`. -/
def coords (c : Fin (grid0.bound 0)) (i : Fin (grid0.bound 1)) : grid0.Coords :=
  fun | 0 => c | 1 => i | ⟨_ + 2, h⟩ => absurd h (Nat.not_lt.2 (Nat.le_add_left _ _))

/-- The thirty-two tiles, by core and subcore and by number. -/
def tiles : Fin 2 × Fin 16 ≃ Fin 32 where
  toFun p := wL (coords p.1 p.2)
  invFun w := (⟨w.val % 2, Nat.mod_lt _ (by decide)⟩, ⟨w.val / 2, by have := w.isLt; omega⟩)
  left_inv p := by
    have h0 : p.1.val < 2 := p.1.isLt
    have h1 : (wL (coords p.1 p.2)).val = 2 * p.2.val + p.1.val := rfl
    refine Prod.ext (Fin.ext ?_) (Fin.ext ?_)
    · show (wL (coords p.1 p.2)).val % 2 = p.1.val; omega
    · show (wL (coords p.1 p.2)).val / 2 = p.2.val; omega
  right_inv w := Fin.ext (show 2 * (w.val / 2) + w.val % 2 = w.val by omega)

/-! ## What the handshakes carry -/

/-- The table and the edge list of device `d` at the launch. -/
abbrev Xm (d : Dev nD) : SX.Idx → F .f32 := m (pLoc d)
abbrev Em (d : Dev nD) : SE.Idx → BitVec 32 := m (eLoc d)

/-- Tile `w`'s arrays before it runs, -/
abbrev givs (d : Dev nD) (w : Fin 32) : sProp (𝕄 F) := take d (Xm m d) (Em m d) (Transfers.shareTok fullShare 32 w) w (m (uLoc d)) (m (cLoc d))
/-- and after. -/
abbrev gets (d : Dev nD) (w : Fin 32) : sProp (𝕄 F) :=
  take d (Xm m d) (Em m d) (Transfers.shareTok fullShare 32 w) w (sumsOf (Xm m d) (Em m d) : Buf (Elt F) (uLoc d)) (cntsOf (Em m d) : Buf (Elt F) (cLoc d))

/-- The coordinates of a task of the call. -/
abbrev crd (c : Fin ((K (F := F)).nCore 0)) (i : Fin ((K (F := F)).nSub 0)) : grid0.Coords := coords ⟨c.val, c.isLt⟩ ⟨i.val, i.isLt⟩

/-- Each SparseCore takes its sixteen tiles' arrays and brings them back filled. -/
def P : (K (F := F)).Pay (nD := nD) (Val := Elt F) (Name := ℕ) (U := UU) where
  st := fun q d c => match q with | 0 => bigSep Finset.univ fun i : Fin ((K (F := F)).nSub 0) => givs m d (wL (crd (F := F) c i))
  dn := fun q d c => match q with | 0 => bigSep Finset.univ fun i : Fin ((K (F := F)).nSub 0) => gets m d (wL (crd (F := F) c i))
  go := fun q d c i => match q with | 0 => givs m d (wL (crd (F := F) c i))
  td := fun q d c i => match q with | 0 => gets m d (wL (crd (F := F) c i))
  x := fun _ _ => iprop(emp)

instance take_storable (d : Dev nD) (X : SX.Idx → F .f32) (E : SE.Idx → BitVec 32) (q : PosShare TreeShare) (w : Fin 32) (fu : Buf (Elt F) (uLoc d))
    (fc : Buf (Elt F) (cLoc d)) : BI.Storable (upEmb : UEmb _ (𝕄 F)) (take d X E q w fu fc) := by unfold take; infer_instance

instance P_storable : (P (F := F) m).IsStorable where
  st q d c := match q with
    | 0 => (inferInstance : BI.Storable (upEmb : UEmb _ (𝕄 F)) (bigSep Finset.univ fun i : Fin ((K (F := F)).nSub 0) => givs m d (wL (crd (F := F) c i))))
  dn q d c := match q with
    | 0 => (inferInstance : BI.Storable (upEmb : UEmb _ (𝕄 F)) (bigSep Finset.univ fun i : Fin ((K (F := F)).nSub 0) => gets m d (wL (crd (F := F) c i))))
  go q d c i := match q with
    | 0 => (inferInstance : BI.Storable (upEmb : UEmb _ (𝕄 F)) (givs m d (wL (crd (F := F) c i))))
  td q d c i := match q with
    | 0 => (inferInstance : BI.Storable (upEmb : UEmb _ (𝕄 F)) (gets m d (wL (crd (F := F) c i))))

/-! ## The tile's obligation -/

theorem defs₀_vector (c : Fin τ.nSC) (s : Fin τ.nSub) :
    defs₀ (F := F) (.scVector c s) 0 ()
      = SparseCore.onTile hcore0 hsub0 (fun c s => cc0__edge_partials (coords c s)
          pV (Memref.isWhole_whole _) sV (Memref.isWhole_whole _) tV (Memref.isWhole_whole _) uV (Memref.isWhole_whole _) cV (Memref.isWhole_whole _)
          aV (Memref.isWhole_whole _) bV (Memref.isWhole_whole _) gV (Memref.isWhole_whole _) hV (Memref.isWhole_whole _) yV (Memref.isWhole_whole _)
          zV (Memref.isWhole_whole _) cc0_scratch6 cc0_scoped0 cc0_scoped1 cc0_scoped2 cc0_scoped3) ⟨⟩ c s := rfl

omit [FloatOps F] in
/-- A tile's record of waits, as its obligation asks for it. -/
theorem waits_weaken {thr : Thread nD τ} {A B C : sProp (𝕄 F)} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; intro p hp; rcases hW' p hp with h | h; · exact .inl h
    exact .inr (.inl h)
  · iexact HO

set_option maxRecDepth 16384 in
/-- Every tile does its part of the call. -/
theorem tileObl (hF : (K (F := F)).Facts) (hE : ∀ d : Dev nD, InRange (Em m d)) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coords ⟨_, hci.1⟩ ⟨_, hci.2⟩) (Xm m d) (Em m d) hF (hE d) _ (m (uLoc d)) (m (cLoc d)) O W hO).trans (wp_mono frame _ _ fun _ => waits_weaken)

/-- A SparseCore's arrays are its tiles', as they stand. -/
theorem vecSplit : (K (F := F)).VecSplit' (P m) 0 := by
  intro d c
  show (bigSep Finset.univ fun i : Fin ((K (F := F)).nSub 0) => givs m d (wL (crd (F := F) c i))) ⊢ |={Set.univ}=> iprop(
      (bigSep Finset.univ fun i : Fin ((K (F := F)).nSub 0) => givs m d (wL (crd (F := F) c i)))
      ∗ ((bigSep Finset.univ fun i : Fin ((K (F := F)).nSub 0) => gets m d (wL (crd (F := F) c i)))
          -∗ (bigSep Finset.univ fun i : Fin ((K (F := F)).nSub 0) => gets m d (wL (crd (F := F) c i)))))
  iintro H; imodintro
  isplitl [H]; · iexact H
  iintro H; iexact H

/-! ## The arrays dealt to the tiles, and joined back -/

omit [FloatOps F] in
/-- One thing per task of the call is one thing per tile. -/
theorem bigSep_tasks (Φ : Fin 32 → sProp (𝕄 F)) :
    (bigSep Finset.univ fun c : Fin ((K (F := F)).nCore 0) => bigSep Finset.univ fun i : Fin ((K (F := F)).nSub 0) => Φ (wL (crd (F := F) c i)))
      = bigSep Finset.univ Φ := by
  rw [bigSep_univ_equiv tiles Φ, bigSep_univ_prod]
  rfl

omit [FloatOps F] in
theorem uPts_rows (d : Dev nD) (f : Buf (Elt F) (uLoc d)) :
    (uLoc d ↦{fullShare} f : sProp (𝕄 F)) = bigSep Finset.univ fun w : Fin 32 => uLoc d ↦[rowSet w]{fullShare} f := by
  rw [← pointsTo_biUnion Finset.univ (ℓ := uLoc d) rowSet (fun i _ j _ h => Rect.part_disjoint div32 h), Rect.biUnion_part div32]; try rfl
omit [FloatOps F] in
theorem cPts_rows (d : Dev nD) (f : Buf (Elt F) (cLoc d)) :
    (cLoc d ↦{fullShare} f : sProp (𝕄 F)) = bigSep Finset.univ fun w : Fin 32 => cLoc d ↦[rowSet w]{fullShare} f := by
  rw [← pointsTo_biUnion Finset.univ (ℓ := cLoc d) rowSet (fun i _ j _ h => Rect.part_disjoint div32 h), Rect.biUnion_part div32]; try rfl

omit [FloatOps F] in
/-- A read-only array held whole is a remainder and a share for each tile. -/
theorem toks (ℓ : Loc nD τ sig) (f : Buf (Elt F) ℓ) :
    (ℓ ↦{fullShare} f : sProp (𝕄 F)) = iprop((ℓ ↦{Transfers.shareDrop fullShare 32} f) ∗ bigSep Finset.univ fun w : Fin 32 => ℓ ↦{Transfers.shareTok fullShare 32 w} f) :=
  BI.Entails.antisymm (Transfers.pointsTo_toks fullShare 32).1 (Transfers.pointsTo_toks fullShare 32).2

/-- What stays behind of the read-only arrays. -/
abbrev kept (d : Dev nD) (X : SX.Idx → F .f32) (E : SE.Idx → BitVec 32) : sProp (𝕄 F) :=
  iprop((pLoc d ↦{Transfers.shareDrop fullShare 32} (X : Buf (Elt F) (pLoc d))) ∗ (sLoc d ↦{Transfers.shareDrop fullShare 32} (rowOf E 0 : Buf (Elt F) (sLoc d)))
    ∗ (tLoc d ↦{Transfers.shareDrop fullShare 32} (rowOf E 1 : Buf (Elt F) (tLoc d))))
/-- The five arrays held whole. -/
abbrev five (d : Dev nD) (X : SX.Idx → F .f32) (E : SE.Idx → BitVec 32) (fu : Buf (Elt F) (uLoc d)) (fc : Buf (Elt F) (cLoc d)) : sProp (𝕄 F) :=
  iprop((pLoc d ↦{fullShare} (X : Buf (Elt F) (pLoc d))) ∗ (sLoc d ↦{fullShare} (rowOf E 0 : Buf (Elt F) (sLoc d))) ∗ (tLoc d ↦{fullShare} (rowOf E 1 : Buf (Elt F) (tLoc d)))
    ∗ (uLoc d ↦{fullShare} fu) ∗ (cLoc d ↦{fullShare} fc))

omit [FloatOps F] in
/-- The five arrays held whole are what stays behind and every tile's part. -/
theorem deal (d : Dev nD) (X : SX.Idx → F .f32) (E : SE.Idx → BitVec 32) (fu : Buf (Elt F) (uLoc d)) (fc : Buf (Elt F) (cLoc d)) :
    five d X E fu fc ⊣⊢ iprop(kept d X E ∗ bigSep Finset.univ fun w : Fin 32 => take d X E (Transfers.shareTok fullShare 32 w) w fu fc) := by
  unfold take five kept
  rw [bigSep_sep', bigSep_sep', bigSep_sep', bigSep_sep', ← uPts_rows, ← cPts_rows, toks (pLoc d), toks (sLoc d), toks (tLoc d)]
  constructor
  · iintro ⟨⟨Hp, Hp'⟩, ⟨Hs, Hs'⟩, ⟨Ht, Ht'⟩, Hu, Hc⟩
    isplitl [Hp Hs Ht]
    · isplitl [Hp]; · iexact Hp
      isplitl [Hs]; · iexact Hs
      iexact Ht
    isplitl [Hp']; · iexact Hp'
    isplitl [Hs']; · iexact Hs'
    isplitl [Ht']; · iexact Ht'
    isplitl [Hu]; · iexact Hu
    iexact Hc
  · iintro ⟨⟨Hp, Hs, Ht⟩, Hp', Hs', Ht', Hu, Hc⟩
    isplitl [Hp Hp']; · isplitl [Hp]; · iexact Hp
                        iexact Hp'
    isplitl [Hs Hs']; · isplitl [Hs]; · iexact Hs
                        iexact Hs'
    isplitl [Ht Ht']; · isplitl [Ht]; · iexact Ht
                        iexact Ht'
    isplitl [Hu]; · iexact Hu
    iexact Hc

/-- What the call takes, over its tasks, is every tile's part; -/
theorem st0_eq (d : Dev nD) : (bigSep Finset.univ fun c : Fin ((K (F := F)).nCore 0) => (P m).st 0 d c) = bigSep Finset.univ fun w : Fin 32 => givs m d w :=
  bigSep_tasks (fun w => givs m d w)
/-- and what it hands back. -/
theorem dn0_eq (d : Dev nD) : (bigSep Finset.univ fun c : Fin ((K (F := F)).nCore 0) => (P m).dn 0 d c) = bigSep Finset.univ fun w : Fin 32 => gets m d w :=
  bigSep_tasks (fun w => gets m d w)

/-! ## The launch element of the ghost state -/

/-- The pipeline's cells, as the launch funds them. -/
abbrev pipe₀ : UP := initOf (Pipeline.cells (nD := nD) (τ := τ) (Pipeline.pin (pcfgs (F := F)) adm) cellOf_inj) (Pipeline.launchToks (Pipeline.pin (pcfgs (F := F)) adm) cellOf_inj)

def u₀ : UU := (initOf (K (F := F)).hsCells (K (F := F)).hsToks, (pipe₀ (F := F), 1))

/-- What the launch deals device `d`'s TensorCore: its pipeline's cells and tokens. -/
abbrev pipeRes (d : Dev nD) : sProp (𝕄 F) :=
  iprop(Pipeline.cellsGhost (Pipeline.pin (pcfgs (F := F)) adm) EP 0 d ∗ Pipeline.toksInit (Pipeline.pin (pcfgs (F := F)) adm) EP 0 d)

omit [FloatOps F] in
theorem emps {I : Type} (s : Finset I) : (bigSep s fun _ => iprop(emp)) = (iprop(emp) : sProp (𝕄 F)) := bigSep_emp_const s

/-- The launch element splits into the handshakes' part and each TensorCore's. -/
theorem hu₀ : (ownU (u₀ (F := F)) : sProp (𝕄 F))
    ⊢ |={Set.univ}=> iprop(BI.own (EH (initOf (K (F := F)).hsCells (K (F := F)).hsToks)) ∗ (bigSep Finset.univ fun d : Dev nD => pipeRes (F := F) d)
        ∗ bigSep Finset.univ fun thr : Thread nD τ => bigSep Finset.univ fun q : Fin 1 => (P m).x q thr) := by
  unfold u₀
  iintro Hu
  ihave H := (ownU_pair (initOf (K (F := F)).hsCells (K (F := F)).hsToks) ((pipe₀ (F := F), 1) : UP × Counters)) $$ Hu
  icases H with ⟨HH, HR⟩
  ihave H := (own_pair_emb embR (pipe₀ (F := F)) (1 : Counters)) $$ HR
  icases H with ⟨HP, -⟩
  imod (Pipeline.fund_ghost (Pipeline.pin (pcfgs (F := F)) adm) EP cellOf_inj) $$ HP with ⟨Hg, Ht⟩
  imodintro
  isplitl [HH]; · iexact HH
  isplitl [Hg Ht]
  · rw [bigSep_sep']
    isplitl [Hg]
    · iapply (Entails.of_eq (bigSep_congr fun d _ => bigSep_univ_of_subsingleton (0 : Fin 1))) $$ Hg
    · iapply (Entails.of_eq (bigSep_congr fun d _ => bigSep_univ_of_subsingleton (0 : Fin 1))) $$ Ht
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), emps]
  iempintro

end Cert.KernelIdeal.Run
-- ==== Proof.KernelIdeal.Main.lean ====
/-
  The program's run: @main on the TensorCore — the edge list's two rows cut out, the SparseCore call, the finishing
  region, the result reshaped — and what the whole run leaves in memory.
-/
module

public import proofs.«01_k».proof.Proof.KernelIdeal.Launch
public import Idealize.ShloMosaic.Lib.ValueLayout

@[expose] public section

noncomputable section

namespace Cert.KernelIdeal.Run

open Cert.KernelIdeal Cert.KernelIdeal.Gen Cert.Edge

open Idealize.ShloMosaic Idealize.ShloMosaic.ValueIdx
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.StableHlo (held wp_hlo_within)

variable {F : FTy → Type} [FloatOps F]

variable (m : (ℓ : Loc nD τ sig) → Buf (Elt F) ℓ) (ρ : Dev nD → PrngReg)

/-! ## The host's operations -/

abbrev dP : DevRef τ sig := Proc.devRef .tc (main_arg0 : Ref sig .tc)
abbrev dE : DevRef τ sig := Proc.devRef .tc (main_arg1 : Ref sig .tc)
abbrev d0 : DevRef τ sig := Proc.devRef .tc (main_v0 : Ref sig .tc)
abbrev d1 : DevRef τ sig := Proc.devRef .tc (main_v1 : Ref sig .tc)
abbrev d2 : DevRef τ sig := Proc.devRef .tc (main_v2 : Ref sig .tc)
abbrev d3 : DevRef τ sig := Proc.devRef .tc (main_v3 : Ref sig .tc)
abbrev dU : DevRef τ sig := Proc.devRef .tc (main_v4_0 : Ref sig .tc)
abbrev dC : DevRef τ sig := Proc.devRef .tc (main_v4_1 : Ref sig .tc)
abbrev d5 : DevRef τ sig := Proc.devRef .tc (main_v5 : Ref sig .tc)
abbrev d6 : DevRef τ sig := Proc.devRef .tc (main_v6 : Ref sig .tc)

abbrev op1 : HloOp τ sig (Elt F) := StableHlo.unary main_arg1 main_v0
  ((extractStridedSlice S1x320000 ![0, 0] · slices_S2x320000_S1x320000_0_0) : (⟨S2x320000, .i32⟩ : BufTy).Contents (Elt F) → (⟨S1x320000, .i32⟩ : BufTy).Contents (Elt F))
abbrev op2 : HloOp τ sig (Elt F) := StableHlo.reshape main_v0 main_v1 (rfl : (.i32 : EltTy) = .i32) shapeCasts_S1x320000_S320000
abbrev op3 : HloOp τ sig (Elt F) := StableHlo.unary main_arg1 main_v2
  ((extractStridedSlice S1x320000 ![1, 0] · slices_S2x320000_S1x320000_1_0) : (⟨S2x320000, .i32⟩ : BufTy).Contents (Elt F) → (⟨S1x320000, .i32⟩ : BufTy).Contents (Elt F))
abbrev op4 : HloOp τ sig (Elt F) := StableHlo.reshape main_v2 main_v3 (rfl : (.i32 : EltTy) = .i32) shapeCasts_S1x320000_S320000
abbrev op5 : HloOp τ sig (Elt F) := StableHlo.reshape main_v5 main_v6 (rfl : (.f32 : EltTy) = .f32) shapeCasts_S1x1_S_

/-- The ten arrays of @main; the last two. -/
abbrev SA : Finset (DevRef τ sig) := {dP, dE, d0, d1, d2, d3, dU, dC, d5, d6}
abbrev SZ : Finset (DevRef τ sig) := {d5, d6}

omit [FloatOps F] in
theorem sub1 : (op1 (F := F)).bufs ⊆ SA := show ({dE, d0} : Finset (DevRef τ sig)) ⊆ SA by decide
omit [FloatOps F] in
theorem sub2 : (op2 (F := F)).bufs ⊆ SA := show ({d0, d1} : Finset (DevRef τ sig)) ⊆ SA by decide
omit [FloatOps F] in
theorem sub3 : (op3 (F := F)).bufs ⊆ SA := show ({dE, d2} : Finset (DevRef τ sig)) ⊆ SA by decide
omit [FloatOps F] in
theorem sub4 : (op4 (F := F)).bufs ⊆ SA := show ({d2, d3} : Finset (DevRef τ sig)) ⊆ SA by decide
omit [FloatOps F] in
theorem sub5 : (op5 (F := F)).bufs ⊆ SZ := show ({d5, d6} : Finset (DevRef τ sig)) ⊆ SZ by decide

abbrev at_ (d : Dev nD) (W : Valuation τ sig (Elt F)) (b : Ref sig .tc) : sProp (𝕄 F) :=
  (SparseCore.T d).loc b ↦{fullShare} W (Proc.devRef .tc b)

omit [FloatOps F] in
theorem held_SA (d : Dev nD) (W : Valuation τ sig (Elt F)) :
    (held (SparseCore.T d) SA W : sProp (𝕄 F)) = iprop(at_ d W main_arg0 ∗ at_ d W main_arg1 ∗ at_ d W main_v0 ∗ at_ d W main_v1 ∗ at_ d W main_v2
      ∗ at_ d W main_v3 ∗ at_ d W main_v4_0 ∗ at_ d W main_v4_1 ∗ at_ d W main_v5 ∗ at_ d W main_v6) := by
  unfold held SA
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
omit [FloatOps F] in
theorem held_SZ (d : Dev nD) (W : Valuation τ sig (Elt F)) :
    (held (SparseCore.T d) SZ W : sProp (𝕄 F)) = iprop(at_ d W main_v5 ∗ at_ d W main_v6) := by
  unfold held SZ
  rw [SparseCore.bigSep_insert' (by decide), bigSep_singleton]

/-- The launch valuation, and the one after the edge list's rows are cut out. -/
def V0 (d : Dev nD) : Valuation τ sig (Elt F) := fun b => m (d, b)
def V4 (d : Dev nD) : Valuation τ sig (Elt F) := op4.result (op3.result (op2.result (op1.result (V0 m d))))

omit [FloatOps F] in
theorem unscoped_held (d : Dev nD) : (unscopedBufs d (fun b => m ((SparseCore.T d).loc b)) : sProp (𝕄 F)) = held (SparseCore.T d) SA (V0 m d) := by
  rw [held_SA]
  unfold unscopedBufs
  rw [show (Finset.univ.filter fun b : Ref sig .tc => ¬ b.isScoped) = {main_arg0, main_arg1, main_v0, main_v1, main_v2, main_v3, main_v4_0, main_v4_1, main_v5, main_v6} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  rfl

omit [FloatOps F] in
/-- An array no operation writes is as the launch had it. -/
theorem V4_of_ne (d : Dev nD) (b : Ref sig .tc) (h0 : b ≠ main_v0) (h1 : b ≠ main_v1) (h2 : b ≠ main_v2) (h3 : b ≠ main_v3) :
    V4 m d (Proc.devRef .tc b) = m ((SparseCore.T d).loc b) := by
  unfold V4
  rw [StableHlo.reshape_result_ne (h := h3), StableHlo.unary_result_ne (h := h2), StableHlo.reshape_result_ne (h := h1), StableHlo.unary_result_ne (h := h0)]
  rfl

omit [FloatOps F] in
/-- A row of the edge list, cut out and flattened, is that row. -/
theorem cut_row (E : SE.Idx → BitVec 32) (r : Fin 2) (off : Fin 2 → ℕ) (h0 : off 0 = r.val) (h1 : off 1 = 0)
    (hs : S2x320000.Slices off S1x320000) (hc : S1x320000.ShapeCasts S320000) :
    shapeCast S320000 (extractStridedSlice S1x320000 off E hs) hc = rowOf E r := by
  funext i
  obtain ⟨k, rfl⟩ : ∃ k : Fin 320000, i = ix1 k := ⟨i 0, funext fun a => match a with | ⟨0, _⟩ => rfl⟩
  rw [shapeCast_1a_a_apply]
  refine extractStridedSlice_apply off E hs _ (ix2 r ⟨k.val % 320000, Nat.mod_lt _ (by decide)⟩) ?_
  intro a
  match a with
  | ⟨0, _⟩ => show r.val = off 0 + 0; omega
  | ⟨1, _⟩ => show k.val % 320000 = off 1 + k.val; rw [h1, Nat.mod_eq_of_lt k.isLt, Nat.zero_add]

omit [FloatOps F] in
theorem V4_1 (d : Dev nD) : V4 m d d1 = (rowOf (Em m d) 0 : Buf (Elt F) (sLoc d)) := by
  unfold V4
  rw [StableHlo.reshape_result_ne (h := by decide), StableHlo.unary_result_ne (h := by decide), StableHlo.reshape_result, StableHlo.unary_result]
  exact cut_row (Em m d) 0 ![0, 0] rfl rfl slices_S2x320000_S1x320000_0_0 shapeCasts_S1x320000_S320000
omit [FloatOps F] in
theorem V4_3 (d : Dev nD) : V4 m d d3 = (rowOf (Em m d) 1 : Buf (Elt F) (tLoc d)) := by
  unfold V4
  rw [StableHlo.reshape_result, StableHlo.unary_result, StableHlo.reshape_result_ne (h := by decide), StableHlo.unary_result_ne (h := by decide)]
  exact cut_row (Em m d) 1 ![1, 0] rfl rfl slices_S2x320000_S1x320000_1_0 shapeCasts_S1x320000_S320000

/-- The program's result: the sums' total over the counts' total. -/
def res (d : Dev nD) : S_.Idx → F .f32 := fun _ => k1_pay1 (sumsOf (Xm m d) (Em m d)) (cntsOf (Em m d))

/-- The word the finishing region writes, as an array of the TensorCore. -/
abbrev vLoc (d : Dev nD) : Loc nD τ sig := (d.tc : Thread nD τ).loc main_v5

/-- The last two arrays before and after the last reshape. -/
def VZ (d : Dev nD) (f : Buf (Elt F) (vLoc d)) : Valuation τ sig (Elt F) := Function.update (V0 m d) d5 f
omit [FloatOps F] in
theorem VZ_5 (d : Dev nD) (f : Buf (Elt F) (vLoc d)) : VZ m d f d5 = f := Function.update_self _ _ _
omit [FloatOps F] in
theorem VZ_6 (d : Dev nD) (f : Buf (Elt F) (vLoc d)) : VZ m d f d6 = m ((SparseCore.T d).loc main_v6) :=
  Function.update_of_ne (show d6 ≠ d5 by decide) _ _
theorem result_6 (d : Dev nD) :
    (op5 (F := F)).result (VZ m d (quot (sumsOf (Xm m d) (Em m d)) (cntsOf (Em m d)))) d6 = (res m d : Buf (Elt F) ((SparseCore.T d).loc main_v6)) := by
  rw [StableHlo.reshape_result, show VZ m d (quot (sumsOf (Xm m d) (Em m d)) (cntsOf (Em m d))) (Proc.devRef .tc main_v5) = _ from VZ_5 m d _]
  rfl

/-- What @main leaves: the two arguments as launched, and the result. -/
abbrev FIN (d : Dev nD) : sProp (𝕄 F) :=
  iprop((pLoc d ↦{fullShare} (Xm m d : Buf (Elt F) (pLoc d))) ∗ ((SparseCore.T d).loc main_arg1 ↦{fullShare} (Em m d : Buf (Elt F) ((SparseCore.T d).loc main_arg1)))
    ∗ ((SparseCore.T d).loc main_v6 ↦{fullShare} (res m d : Buf (Elt F) ((SparseCore.T d).loc main_v6))))

/-- The finishing region as @main calls it. -/
theorem fin_call (d : Dev nD) (A B : SR.Idx → F .f32) (f : Buf (Elt F) ((SparseCore.T d).loc main_v5)) (Φ : PUnit → sProp (𝕄 F)) (κ : GSem nD τ sig → ℕ) :
    iprop((K (F := F)).ctx EH (P m) κ ∗ boundary (SparseCore.T d) ∗ pipeRes (F := F) d
        ∗ ((SparseCore.T d).loc main_v4_0 ↦{fullShare} (A : Buf (Elt F) ((SparseCore.T d).loc main_v4_0)))
        ∗ ((SparseCore.T d).loc main_v4_1 ↦{fullShare} (B : Buf (Elt F) ((SparseCore.T d).loc main_v4_1)))
        ∗ ((SparseCore.T d).loc main_v5 ↦{fullShare} f) ∗ (K (F := F)).tcSt EH d 1
        ∗ (iprop(boundary (SparseCore.T d) ∗ ((SparseCore.T d).loc main_v5 ↦{fullShare} (quot A B : Buf (Elt F) ((SparseCore.T d).loc main_v5))) ∗ (K (F := F)).tcSt EH d 1) -∗ Φ ⟨⟩))
      ⊢ wp frame (wpE ((K (F := F)).defs (D (F := F))) 𝒱 (SparseCore.T d) none) Set.univ (Prog.lift (.customCall (SparseCore.inner (Pipeline.entry 0)) ())) Φ := by
  unfold SparseCore.Cfg.tcSt
  rw [(K (F := F)).Otc_end d (le_refl 1)]
  change iprop(_) ⊢ wp frame (wpE ((K (F := F)).defs (D (F := F))) 𝒱 (SparseCore.T d) none) Set.univ (SparseCore.liftProg (.op (.customCall (Pipeline.entry 0) ()) .ret)) Φ
  iintro ⟨#Hctx, Hb, ⟨Hg, Hts⟩, HA, HB, H5, ⟨Ho, Hrest⟩, Hk⟩
  ihave Hlev := (SparseCore.Cfg.ctx_levAts κ) $$ Hctx
  iapply ((K (F := F)).wp_liftProg (D (F := F)) 𝒱 (SparseCore.T d) Set.univ none (.op (.customCall (Pipeline.entry 0) ()) .ret) Φ)
  iapply (Pipeline.RegionSeg.wp (pcfgs (F := F)) adm (pdats A B (fun c => if h : c = d then h ▸ f else m ((SparseCore.T c).loc main_v5))) none cellOf_inj EP defs₀ 𝒱₀ (K (F := F)).L (K (F := F)).lev
    (reg A B _) d none (fun u hu => absurd hu (by simp)) .ret Φ)
  isplitl [Hk Hrest]
  · iintro ⟨Hb, Hpost⟩
    rw [wp_ret]
    imodintro
    iapply Hk
    isplitl [Hb]; · iexact Hb
    unfold reg
    icases Hpost with ⟨-, -, H5, Ho⟩
    isplitl [H5]; · iexact H5
    isplitl [Ho]; · iexact Ho
    iexact Hrest
  isplitl [Hb]; · iexact Hb
  isplitl [HA HB H5 Ho]
  · unfold reg
    isplitl [HA]; · iexact HA
    isplitl [HB]; · iexact HB
    isplitl [H5]; · simp only [dif_pos]; iexact H5
    iexact Ho
  isplitl [Hlev]; · iexact Hlev
  isplitl [Hg]; · iexact Hg
  iexact Hts

/-- @main on device `d`'s TensorCore: from the arrays as launched to the arguments kept and the result. -/
theorem hmain (κ : GSem nD τ sig → ℕ) (d : Dev nD) :
    iprop((K (F := F)).ctx EH (P m) κ ∗ (K (F := F)).tcSt EH d 0 ∗ (K (F := F)).tcRes m ρ d ∗ pipeRes (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, Hpipe⟩
  -- the edge list's rows, cut out and flattened
  iapply (wp_hlo_within 𝒱 (SparseCore.T d) none Set.univ (op := op1) (S := SA) sub1 (V := V0 m d)) $$ [Hb Hheld]
  · isplitl [Hb] <;> iassumption
  iintro ⟨Hb, Hheld⟩; rw [wp_ret]; imodintro
  iapply (wp_hlo_within 𝒱 (SparseCore.T d) none Set.univ (op := op2) (S := SA) sub2 (V := op1.result (V0 m d))) $$ [Hb Hheld]
  · isplitl [Hb] <;> iassumption
  iintro ⟨Hb, Hheld⟩; rw [wp_ret]; imodintro
  iapply (wp_hlo_within 𝒱 (SparseCore.T d) none Set.univ (op := op3) (S := SA) sub3 (V := op2.result (op1.result (V0 m d)))) $$ [Hb Hheld]
  · isplitl [Hb] <;> iassumption
  iintro ⟨Hb, Hheld⟩; rw [wp_ret]; imodintro
  iapply (wp_hlo_within 𝒱 (SparseCore.T d) none Set.univ (op := op4) (S := SA) sub4 (V := op3.result (op2.result (op1.result (V0 m d))))) $$ [Hb Hheld]
  · isplitl [Hb] <;> iassumption
  iintro ⟨Hb, Hheld⟩; rw [wp_ret]; imodintro
  ihave Hh := (Entails.of_eq (show held (SparseCore.T d) SA (op4.result (op3.result (op2.result (op1.result (V0 m d))))) = _ from held_SA (F := F) d (V4 m d))) $$ Hheld
  unfold at_
  rw [V4_of_ne m d main_arg0 (by decide) (by decide) (by decide) (by decide), V4_of_ne m d main_arg1 (by decide) (by decide) (by decide) (by decide),
    V4_of_ne m d main_v4_0 (by decide) (by decide) (by decide) (by decide), V4_of_ne m d main_v4_1 (by decide) (by decide) (by decide) (by decide),
    V4_of_ne m d main_v5 (by decide) (by decide) (by decide) (by decide), V4_of_ne m d main_v6 (by decide) (by decide) (by decide) (by decide),
    show V4 m d (Proc.devRef .tc main_v1) = _ from V4_1 m d, show V4 m d (Proc.devRef .tc main_v3) = _ from V4_3 m d]
  icases Hh with ⟨HP, HE, -, H1, -, H3, HU, HC, H5, H6⟩
  -- the call: every tile's part out and back
  ihave Hd := (deal d (Xm m d) (Em m d) (m (uLoc d)) (m (cLoc d))).1 $$ [HP H1 H3 HU HC]
  · isplitl [HP]; · iexact HP
    isplitl [H1]; · iexact H1
    isplitl [H3]; · iexact H3
    isplitl [HU]; · iexact HU
    iexact HC
  icases Hd with ⟨Hkept, Htake⟩
  iapply ((K (F := F)).wp_run (D (F := F)) 𝒱 (EH := EH) (P := P m) κ d 0)
  isplitr; · iexact Hctx
  isplitl [Hst]; · iexact Hst
  isplitl [Htake]; · rw [st0_eq]; iexact Htake
  iintro ⟨Hst, Hdn⟩
  ihave Hdn' := (Entails.of_eq (dn0_eq m d)) $$ Hdn
  ihave Hf := (deal d (Xm m d) (Em m d) (sumsOf (Xm m d) (Em m d)) (cntsOf (Em m d))).2 $$ [Hkept Hdn']
  · isplitl [Hkept]; · iexact Hkept
    iexact Hdn'
  icases Hf with ⟨HP, -, -, HU, HC⟩
  -- the finishing region
  iapply (fin_call m d (sumsOf (Xm m d) (Em m d)) (cntsOf (Em m d)) (m ((SparseCore.T d).loc main_v5)) _ κ)
  isplitr; · iexact Hctx
  isplitl [Hb]; · iexact Hb
  isplitl [Hpipe]; · iexact Hpipe
  isplitl [HU]; · iexact HU
  isplitl [HC]; · iexact HC
  isplitl [H5]; · iexact H5
  isplitl [Hst]; · iexact Hst
  iintro ⟨Hb, H5, Hst⟩
  -- the result reshaped
  iapply (wp_hlo_within 𝒱 (SparseCore.T d) none Set.univ (op := op5) (S := SZ) sub5
    (V := VZ m d (quot (sumsOf (Xm m d) (Em m d)) (cntsOf (Em m d))))) $$ [Hb H5 H6]
  · isplitl [Hb]; · iexact Hb
    rw [held_SZ]; unfold at_
    rw [show VZ m d _ (Proc.devRef .tc main_v5) = _ from VZ_5 m d _, show VZ m d _ (Proc.devRef .tc main_v6) = _ from VZ_6 m d _]
    isplitl [H5]; · iexact H5
    iexact H6
  iintro ⟨Hb, Hheld⟩
  ihave Hh := (Entails.of_eq (held_SZ (F := F) d _)) $$ Hheld
  unfold at_
  rw [show (op5 (F := F)).result (VZ m d (quot (sumsOf (Xm m d) (Em m d)) (cntsOf (Em m d)))) (Proc.devRef .tc main_v6) = _ from result_6 m d]
  icases Hh with ⟨-, H6⟩
  rw [wp_ret]; imodintro; imodintro
  isplitl [Hst]; · iexact Hst
  isplitr [Hb Hts]
  · isplitl [HP]; · iexact HP
    isplitl [HE]; · iexact HE
    iexact H6
  isplitl [Hb] <;> iassumption

/-! ## What the run leaves in memory -/

def fq (d : Dev nD) (s' : Phys nD τ sig (Elt F)) : Prop :=
  s'.mem.mem (pLoc d) = m (pLoc d) ∧ s'.mem.mem ((SparseCore.T d).loc main_arg1) = m ((SparseCore.T d).loc main_arg1)
    ∧ s'.mem.mem ((SparseCore.T d).loc main_v6) = (res m d : Buf (Elt F) ((SparseCore.T d).loc main_v6))

/-- An array held whole is what memory has there. -/
theorem agree (s' : Phys nD τ sig (Elt F)) (ℓ : Loc nD τ sig) (f : Buf (Elt F) ℓ) :
    iprop((ℓ ↦{fullShare} f) ∗ SI s') ⊢ (⌜s'.mem.mem ℓ = f⌝ : sProp (𝕄 F)) := by
  iintro ⟨Hx, HSI⟩
  ihave H := (SI_pointsTo_agree (st := s') (ℓ := ℓ) (I := Finset.univ) (q := fullShare) (f := f)) $$ [HSI Hx]
  · isplitl [HSI] <;> iassumption
  icases H with %hx
  ipureintro; exact funext fun i => hx i (Finset.mem_univ i)

theorem hfin (d : Dev nD) (s' : Phys nD τ sig (Elt F)) : iprop(FIN m d ∗ SI s') ⊢ (⌜fq m d s'⌝ : sProp (𝕄 F)) := by
  iintro ⟨⟨HP, HE, H6⟩, HSI⟩
  ihave H := (persistent_entails_right (agree s' (pLoc d) _)) $$ [HP HSI]
  · isplitl [HP] <;> iassumption
  icases H with ⟨%hP, HP, HSI⟩
  ihave H := (persistent_entails_right (agree s' ((SparseCore.T d).loc main_arg1) _)) $$ [HE HSI]
  · isplitl [HE] <;> iassumption
  icases H with ⟨%hE, HE, HSI⟩
  ihave H := (agree s' ((SparseCore.T d).loc main_v6) _) $$ [H6 HSI]
  · isplitl [H6] <;> iassumption
  icases H with %h6
  ipureintro
  exact ⟨hP, hE, h6⟩

/-! ## The program's run -/

def QC : PUnit × MemSt nD τ sig (Elt F) → Prop := fun r =>
  (∀ d : Dev nD, r.2.mem (pLoc d) = m (pLoc d) ∧ r.2.mem ((SparseCore.T d).loc main_arg1) = m ((SparseCore.T d).loc main_arg1)
    ∧ r.2.mem ((SparseCore.T d).loc main_v6) = (res m d : Buf (Elt F) ((SparseCore.T d).loc main_v6))) ∧ r.2.sem = fun _ => 0

/-- From any memory whose edge list names rows of the table, every run of the program ends with the arguments kept, the
    result at the value above, and every semaphore at zero. -/
theorem run_main [∀ e, Nonempty (Elt F e)] (hE : ∀ d, InRange (Em m d)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hE)
    (fun q _ => match q with | 0 => SparseCore.Cfg.VecSplit.of_plain (vecSplit m))
    m ρ main (fun d => pipeRes (F := F) d) (FIN m) (u₀ (F := F)) (sep_elim_left.trans (hu₀ m)) (hmain m ρ) (fq m) (hfin m) (QC m) (fun _ h hz => ⟨h, hz⟩)

end Cert.KernelIdeal.Run
-- ==== Proof.Frames.lean ====
/-
  The frames: each program runs from any memory its precondition admits, keeps its arguments, and leaves every
  semaphore at zero.
-/
module

public import proofs.«01_k».proof.Defs
public import proofs.«01_k».proof.Proof.Edge.Pre
public import proofs.«01_k».proof.Proof.Kernel.Main
public import proofs.«01_k».proof.Proof.KernelIdeal.Main
public import proofs.«01_k».proof.Proof.Gen.ReferenceIdeal.Run
public import Idealize.ShloMosaic.Lib.Quiescent

@[expose] public section

noncomputable section

namespace Cert.Edge

open Idealize.ShloMosaic Idealize.SL.Sem

/-- The kernel's frame, on the machine's words. -/
theorem frame_kernel : Cert.quiescent_Kernel := fun m g hp =>
  (θ_run (Cert.Kernel.defs (F := Bits)) _ _).mono (fun _ h => ⟨fun c => ⟨(h.1 c).1, (h.1 c).2.1⟩, h.2⟩)
    (Cert.Kernel.Run.run_main (F := Bits) m g fun d => inRange_of_pre _ _ (hp d))

/-- The idealized kernel's frame. -/
theorem frame_ideal : Cert.quiescent_KernelIdeal := fun m g hp =>
  (θ_run (Cert.KernelIdeal.defs (F := Ideal)) _ _).mono (fun _ h => ⟨fun c => ⟨(h.1 c).1, (h.1 c).2.1⟩, h.2⟩)
    (Cert.KernelIdeal.Run.run_main (F := Ideal) m g fun d => inRange_of_pre _ _ (hp d))

/-- The same under the stronger precondition of the value claim. -/
theorem frame_ideal' : Cert.quiescent_KernelIdeal_pre_in_range_row0_finite := fun m g hp =>
  (θ_run (Cert.KernelIdeal.defs (F := Ideal)) _ _).mono (fun _ h => ⟨fun c => ⟨(h.1 c).1, (h.1 c).2.1⟩, h.2⟩)
    (Cert.KernelIdeal.Run.run_main (F := Ideal) m g fun d => inRange_of_pre' _ _ (hp d))

/-- The reference's frame: it has no semaphore at all. -/
theorem frame_ref : Cert.quiescent_ReferenceIdeal := fun m g _ =>
  (θ_run (Cert.ReferenceIdeal.defs (F := Ideal)) _ _).mono
    (fun r h => ⟨fun c => (h c).2, sem_eq_zero_of_no_sems rfl r.2⟩)
    (Cert.ReferenceIdeal.Value.run (F := Ideal) m g)

theorem frame_ref' : Cert.quiescent_ReferenceIdeal_pre_in_range_row0_finite := fun m g _ => frame_ref m g trivial

end Cert.Edge
-- ==== Proof.Edge.Sums.lean ====
/-
  The kernel's quotient at the extended reals: the tiles' sums add up to the sum over every edge and every column of the
  squared difference, the tiles' counts to the sum over every edge of its flag.
-/
module

public import proofs.«01_k».proof.Proof.Edge.Vals
public import proofs.«01_k».proof.Proof.Gen.KernelIdeal.Skeleton
public import Idealize.ShloMosaic.Lib.IdealHost
public import Idealize.ShloMosaic.Lib.ValueLayout
public import Idealize.ShloMosaic.Lib.Pointwise.Reduce

@[expose] public section

noncomputable section

namespace Cert.Edge

open Idealize.ShloMosaic Idealize.ShloMosaic.ValueIdx

/-- The zero word is the number 0. -/
theorem zero_word : (Scalar.ofBits .f32 0x00000000#32 : Ideal .f32) = (0 : EReal) := by
  show Ideal.ofBits .f32 0x00000000#32 = 0
  simp [Ideal.ofBits, Ideal.ieee]

/-- The word of 1.0 is the number 1. -/
theorem one_word : (Scalar.ofBits .f32 0x3F800000#32 : Ideal .f32) = (1 : EReal) := Ideal.ofBits_one_f32

/-- A running sum is the sum. -/
theorem fsum_eq (f : ℕ → Ideal .f32) (n : ℕ) : (fsum f n : EReal) = ∑ i : Fin n, (f i.val : EReal) := by
  induction n with
  | zero => rw [Fin.sum_univ_zero]; exact zero_word
  | succ n ih => rw [Fin.sum_univ_castSucc]; exact congrArg (· + (f n : EReal)) ih

/-- A sum over `a * b` numbers, by blocks of `b`. -/
theorem sum_blocks (a b : ℕ) (g : ℕ → EReal) : ∑ i : Fin (a * b), g i.val = ∑ i : Fin a, ∑ j : Fin b, g (b * i.val + j.val) := by
  rw [← Equiv.sum_comp finProdFinEquiv, Fintype.sum_prod_type]
  refine Finset.sum_congr rfl fun i _ => Finset.sum_congr rfl fun j _ => ?_
  show g (j.val + b * i.val) = _
  rw [Nat.add_comm]

/-- What one edge adds in all: the squared differences of the two rows, over the columns. -/
def loss (X : SX.Idx → Ideal .f32) (a b : BitVec 32) : EReal := ∑ k : Fin 128, (sqd (pick X a k.val) (pick X b k.val) : EReal)

/-- A tile's lane, as a sum over its column groups. -/
theorem tileSum_eq (X : SX.Idx → Ideal .f32) (E : SE.Idx → BitVec 32) (w l : ℕ) :
    (tileSum X E w l : EReal) = ∑ j : Fin 8, ∑ n : Fin 10000, (term X E w j.val l n.val : EReal) := by
  simp only [← fsum_eq]
  rw [Fin.sum_univ_eight]
  rfl

/-- All the tiles' sums: every edge's squared differences. -/
theorem total_sums (X : SX.Idx → Ideal .f32) (E : SE.Idx → BitVec 32) :
    ∑ w : Fin 32, ∑ l : Fin 16, (tileSum X E w.val l.val : EReal) = ∑ e : Fin 320000, loss X (word E 0 e.val) (word E 1 e.val) := by
  refine Eq.trans ?_ (sum_blocks 32 10000 fun e => loss X (word E 0 e) (word E 1 e)).symm
  refine Finset.sum_congr rfl fun w _ => ?_
  have inner (n : Fin 10000) : loss X (word E 0 (10000 * w.val + n.val)) (word E 1 (10000 * w.val + n.val))
      = ∑ j : Fin 8, ∑ l : Fin 16, (term X E w.val j.val l.val n.val : EReal) :=
    sum_blocks 8 16 fun k => (sqd (pick X (word E 0 (10000 * w.val + n.val)) k) (pick X (word E 1 (10000 * w.val + n.val)) k) : EReal)
  rw [Finset.sum_congr rfl fun n _ => inner n]
  simp only [tileSum_eq]
  rw [Finset.sum_comm]
  conv_rhs => rw [Finset.sum_comm]
  refine Finset.sum_congr rfl fun j _ => Finset.sum_comm

/-- All the tiles' counts: every edge's flag. -/
theorem total_cnts (E : SE.Idx → BitVec 32) :
    ∑ w : Fin 32, ∑ l : Fin 16, (tileCnt (F := Ideal) E w.val l.val : EReal) = ∑ e : Fin 320000, (flag (F := Ideal) (word E 0 e.val) (word E 1 e.val) : EReal) := by
  refine Eq.trans ?_ (sum_blocks 32 10000 fun e => (flag (F := Ideal) (word E 0 e) (word E 1 e) : EReal)).symm
  refine Finset.sum_congr rfl fun w _ => ?_
  refine Eq.trans ?_ (sum_blocks 625 16 fun n => (flag (F := Ideal) (word E 0 (10000 * w.val + n)) (word E 1 (10000 * w.val + n)) : EReal)).symm
  rw [Finset.sum_comm]
  refine Finset.sum_congr rfl fun l _ => ?_
  refine (fsum_eq _ _).trans (Finset.sum_congr rfl fun n _ => ?_)
  show (flag (F := Ideal) (word E 0 (10000 * w.val + 16 * n.val + l.val)) (word E 1 (10000 * w.val + 16 * n.val + l.val)) : EReal) = _
  rw [Nat.add_assoc]

open Cert.KernelIdeal Cert.KernelIdeal.Gen in
/-- The finishing region's quotient: the one array's sum over the other's. -/
theorem pay_eq (A B : SR.Idx → Ideal .f32) :
    k1_pay1 (F := Ideal) A B = Ideal.div (∑ w : Fin 32, ∑ l : Fin 16, (A (ValueIdx.ix2 w l) : EReal)) (∑ w : Fin 32, ∑ l : Fin 16, (B (ValueIdx.ix2 w l) : EReal)) := by
  have all (V : SR.Idx → Ideal .f32) :
      (extractAt ![0, 0, 0] (shapeCast S1x1x1 (multiReduction (F := Ideal) .add [1, 2] S1
        (shapeCast S1x32x16 (shapeCast S32x16 V shapeCasts_S32x16_S32x16) shapeCasts_S32x16_S1x32x16) 0x00000000#32 reduces_S1x32x16_S1 (.inl rfl) rfl) shapeCasts_S1_S1x1x1)
        inpos_S1x1x1_p0_0_0 : EReal) = ∑ w : Fin 32, ∑ l : Fin 16, (V (ValueIdx.ix2 w l) : EReal) := by
    refine (Ideal.reduceAdd_r3_a12 _ _ _).trans ?_
    refine Finset.sum_congr rfl fun w _ => Finset.sum_congr rfl fun l _ => ?_
    have at3 : (Idealize.ShloMosaic.ix3 ⟨0, Nat.one_pos⟩ w l : S1x32x16.Idx) = ValueIdx.ix3 (0 : Fin 1) w l := by
      funext a; match a with | ⟨0, _⟩ => rfl | ⟨1, _⟩ => rfl | ⟨2, _⟩ => rfl
    refine (congrArg _ at3).trans ?_
    rw [shapeCast_ab_1ab_apply]
    exact shapeCast_apply V _ _ _ rfl
  exact congrArg₂ Ideal.div (all A) (all B)

/-- The kernel's result: the edges' losses over their flags. -/
theorem res_eq (X : SX.Idx → Ideal .f32) (E : SE.Idx → BitVec 32) :
    Cert.KernelIdeal.Gen.k1_pay1 (F := Ideal) (sumsOf X E) (cntsOf (F := Ideal) E)
      = Ideal.div (∑ e : Fin 320000, loss X (word E 0 e.val) (word E 1 e.val)) (∑ e : Fin 320000, (flag (F := Ideal) (word E 0 e.val) (word E 1 e.val) : EReal)) :=
  (pay_eq _ _).trans (congrArg₂ Ideal.div (total_sums X E) (total_cnts E))

end Cert.Edge
-- ==== Proof.Edge.Ref.lean ====
/-
  The reference's result at the extended reals, for an edge list in range: the sum over the edges of the loss times the
  flag, over the sum of the flags.
-/
module

public import proofs.«01_k».proof.Proof.Edge.Sums
public import proofs.«01_k».proof.Proof.Gen.ReferenceIdeal.Run
public import Idealize.ShloMosaic.Lib.ReduceAll
public import Idealize.ShloMosaic.Lib.WordCmp

@[expose] public section

noncomputable section

namespace Cert.Edge.Ref

open Cert.ReferenceIdeal Cert.ReferenceIdeal.Gen Idealize.ShloMosaic Idealize.ShloMosaic.WordCmp
open Cert.Edge (pick sqd flag loss word rowOf)

/-- The row of the table an edge's end names, as the reference asks for it: a negative word would count from the end. -/
def wrap (v : IVec S320000 32) : IVec S320000x1 32 :=
  broadcastInDim S320000x1 ![0] bcast_S320000_S320000x1_0 (select (cmpi .slt v (broadcastInDim S320000 ![] bcast_S_S320000 (constantI S_ 32 0#32))) (addi v (broadcastInDim S320000 ![] bcast_S_S320000 (constantI S_ 32 10000#32))) v)

/-- Whether each edge's end names a row of the table. -/
def inside (v : IVec S320000 32) : IVec S320000x1 1 :=
  andi (cmpi .sge (wrap v) (broadcastInDim S320000x1 ![] bcast_S_S320000x1 (constantI S_ 32 0#32))) (cmpi .sle (wrap v) (broadcastInDim S320000x1 ![0, 1] bcast_S1x1_S320000x1_0_1 (broadcastInDim S1x1 ![1] bcast_S1_S1x1_1 (constantI S1 32 9999#32))))

/-- The rows the edges' ends name, one for each edge. -/
def taken (X : FVec Ideal S10000x128 .f32) (v : IVec S320000 32) : FVec Ideal S320000x128 .f32 :=
  select (broadcastInDim S320000x128 ![0] bcast_S320000_S320000x128_0 (Host.reduce IntOp.andi (inside v) (constantI S_ 1 1#1) reducesTo_S320000x1_S320000_d1 h_S_))
    (Host.gather gather_S10000x128_S320000x1_S320000x128_1_0_n_n_0_1_1128 X (wrap v)) (broadcastInDim S320000x128 ![] bcast_S_S320000x128 (constant S_ .f32 0x7FC00000#32))

/-- The edges' losses. -/
def losses (X : FVec Ideal S10000x128 .f32) (a b : IVec S320000 32) : FVec Ideal S320000 .f32 :=
  Host.reduceAdd (mulf (subf (taken X a) (taken X b)) (subf (taken X a) (taken X b))) (constant S_ .f32 0x00000000#32) reducesTo_S320000x128_S320000_d1 h_S_

/-- The edges' flags. -/
def flags (a b : IVec S320000 32) : FVec Ideal S320000 .f32 :=
  uitofp .f32 (ori (cmpi .ne a (broadcastInDim S320000 ![] bcast_S_S320000 (constantI S_ 32 0#32))) (cmpi .ne b (broadcastInDim S320000 ![] bcast_S_S320000 (constantI S_ 32 0#32))))

/-- The reference's result from the two ends' words. -/
def out (X : FVec Ideal S10000x128 .f32) (a b : IVec S320000 32) : FVec Ideal S_ .f32 :=
  Host.divf (Host.reduceAdd (mulf (losses X a b) (flags a b)) (constant S_ .f32 0x00000000#32) reducesTo_S320000_S_d0 h_S_)
    (Host.reduceAdd (flags a b) (constant S_ .f32 0x00000000#32) reducesTo_S320000_S_d0 h_S_)

/-- A word below 10000 asks for the row it names. -/
theorem wrap_apply (v : IVec S320000 32) (i : S320000x1.Idx) (e : Fin 320000) (hi : i 0 = e) (h : (v (ix1 e)).toNat < 10000) : wrap v i = v (ix1 e) := by
  have hz : IntOp.cmpi .slt (v (ix1 e)) 0#32 = 0#1 := by
    rw [cmpi_slt_zero]
    exact congrArg BitVec.ofBool (decide_eq_false (by norm_num; omega))
  have hx : ∀ j : S320000.Idx, j = ix1 e → select (cmpi .slt v (broadcastInDim S320000 ![] bcast_S_S320000 (constantI S_ 32 0#32))) (addi v (broadcastInDim S320000 ![] bcast_S_S320000 (constantI S_ 32 10000#32))) v j = v (ix1 e) := by
    rintro j rfl
    exact select_of_eq_zero hz _ _
  refine hx _ (funext fun a => ?_)
  match a with
  | ⟨0, _⟩ => exact hi

/-- A word below 10000 is inside. -/
theorem inside_apply (v : IVec S320000 32) (h : ∀ e : Fin 320000, (v (ix1 e)).toNat < 10000) (i : S320000x1.Idx) : inside v i = 1#1 := by
  have hw := wrap_apply v i (i 0) rfl (h (i 0))
  have hl := h (i 0)
  refine IntOp.andi_eq_one.2 ⟨?_, ?_⟩
  · show IntOp.cmpi .sge (wrap v i) 0#32 = 1#1
    rw [hw, cmpi_sge_zero]
    exact congrArg BitVec.ofBool (decide_eq_true (by norm_num; omega))
  · show IntOp.cmpi .sle (wrap v i) 9999#32 = 1#1
    rw [hw, cmpi_sle_of_lt (by norm_num; omega) (by decide)]
    exact congrArg BitVec.ofBool (decide_eq_true (by show _ ≤ 9999; omega))

/-- The gather at a row and a column: the table at the row asked for. -/
theorem gather_apply (X : FVec Ideal S10000x128 .f32) (idx : IVec S320000x1 32) (e : Fin 320000) (k : Fin 128) (h : (idx (ix2 e 0)).toNat < 10000) :
    Host.gather gather_S10000x128_S320000x1_S320000x128_1_0_n_n_0_1_1128 X idx (ix2 e k) = pick X (idx (ix2 e 0)) k.val := by
  unfold Host.gather pick
  congr 1
  funext a
  refine Fin.ext ?_
  show GatherDims.start gather_S10000x128_S320000x1_S320000x128_1_0_n_n_0_1_1128 (ix2 e k) idx a + GatherDims.batchCoord gather_S10000x128_S320000x1_S320000x128_1_0_n_n_0_1_1128 (ix2 e k) a + GatherDims.offCoord gather_S10000x128_S320000x1_S320000x128_1_0_n_n_0_1_1128 (ix2 e k) a = _
  rw [GatherDims.batchCoord_eq_zero _ _ _ List.not_mem_nil, Nat.add_zero]
  match a with
  | ⟨0, _⟩ =>
    rw [GatherDims.offCoord_eq_zero _ _ _ (fun h => ((GatherDims.mem_sKept _ _).mp h).1 (List.mem_singleton.mpr rfl)), Nat.add_zero]
    unfold GatherDims.start
    refine (dif_pos (show (0 : Fin 2) ∈ [(0 : Fin 2)] from List.mem_singleton.mpr rfl)).trans ?_
    have hsi : GatherDims.siIdx gather_S10000x128_S320000x1_S320000x128_1_0_n_n_0_1_1128 (ix2 e k) ⟨List.idxOf (0 : Fin 2) [(0 : Fin 2)], List.idxOf_lt_length_iff.2 (List.mem_singleton.mpr rfl)⟩ = ix2 e 0 := by
      funext b; refine Fin.ext ?_
      match b with
      | ⟨0, _⟩ => rfl
      | ⟨1, _⟩ => rfl
    refine (congrArg (fun x => min (idx x).toInt.toNat (10000 - 1)) hsi).trans ?_
    show min (idx (ix2 e 0)).toInt.toNat (10000 - 1) = (idx (ix2 e 0)).toNat % 10000
    rw [toInt_eq_toNat_of_lt_half (by norm_num; omega), Nat.mod_eq_of_lt h, Int.toNat_natCast]
    omega
  | ⟨1, _⟩ =>
    show 0 + k.val = k.val % 128
    rw [Nat.mod_eq_of_lt k.isLt, Nat.zero_add]

/-- A word of ones spread over the columns is ones. -/
theorem all_one (c : IVec S320000 1) (h : ∀ j, c j = 1#1) (i : S320000x128.Idx) : broadcastInDim S320000x128 ![0] bcast_S320000_S320000x128_0 c i = 1#1 := h _

/-- The rows taken, entry by entry. -/
theorem taken_apply (X : FVec Ideal S10000x128 .f32) (v : IVec S320000 32) (h : ∀ e : Fin 320000, (v (ix1 e)).toNat < 10000) (e : Fin 320000) (k : Fin 128) :
    taken X v (ix2 e k) = pick X (v (ix1 e)) k.val := by
  have hw := wrap_apply v (ix2 e 0) e rfl (h e)
  unfold taken
  rw [select_at, select_of_eq_one (all_one _ (fun j => Host.reduce_andi_one (inside v) (constantI S_ 1 1#1) reducesTo_S320000x1_S320000_d1 h_S_ j rfl (inside_apply v h)) _),
    gather_apply X (wrap v) e k (by rw [hw]; exact h e), hw]

/-- The sums' initial value is the number 0. -/
theorem zero_const (i : S_.Idx) : (constant (F := Ideal) S_ .f32 0x00000000#32 i : EReal) = 0 := zero_word

/-- The losses, edge by edge. -/
theorem losses_apply (X : FVec Ideal S10000x128 .f32) (a b : IVec S320000 32) (ha : ∀ e : Fin 320000, (a (ix1 e)).toNat < 10000) (hb : ∀ e : Fin 320000, (b (ix1 e)).toNat < 10000)
    (e : Fin 320000) : (losses X a b (ix1 e) : EReal) = loss X (a (ix1 e)) (b (ix1 e)) := by
  unfold losses
  rw [ValueIdx.hostReduceAdd_apply, Ideal.hostReduceAdd_r2_a1, zero_const, zero_add]
  refine Finset.sum_congr rfl fun k _ => ?_
  show (sqd (taken X a (ix2 e k)) (taken X b (ix2 e k)) : EReal) = _
  rw [taken_apply X a ha, taken_apply X b hb]

/-- The flags, edge by edge. -/
theorem flags_apply (a b : IVec S320000 32) (e : Fin 320000) : (flags a b (ix1 e) : EReal) = (flag (F := Ideal) (a (ix1 e)) (b (ix1 e)) : EReal) := by
  show (((IntOp.ori (IntOp.cmpi .ne (a (ix1 e)) 0#32) (IntOp.cmpi .ne (b (ix1 e)) 0#32)).toNat : ℝ) : EReal)
    = Scalar.select (IntOp.ori (IntOp.cmpi .ne (a (ix1 e)) 0#32) (IntOp.cmpi .ne (b (ix1 e)) 0#32)) (Scalar.ofBits .f32 0x3F800000#32 : Ideal .f32) (Scalar.ofBits .f32 0x00000000#32 : Ideal .f32)
  generalize IntOp.ori (IntOp.cmpi .ne (a (ix1 e)) 0#32) (IntOp.cmpi .ne (b (ix1 e)) 0#32) = c
  rcases (show c = 0#1 ∨ c = 1#1 by revert c; decide) with rfl | rfl
  · refine Eq.trans ?_ zero_word.symm
    simp
  · refine Eq.trans ?_ one_word.symm
    simp

/-- The result, summed out. -/
theorem out_eq (X : FVec Ideal S10000x128 .f32) (a b : IVec S320000 32) (ha : ∀ e : Fin 320000, (a (ix1 e)).toNat < 10000) (hb : ∀ e : Fin 320000, (b (ix1 e)).toNat < 10000) (x : S_.Idx) :
    (out X a b x : EReal) = Ideal.div (∑ e : Fin 320000, loss X (a (ix1 e)) (b (ix1 e)) * (flag (F := Ideal) (a (ix1 e)) (b (ix1 e)) : EReal))
      (∑ e : Fin 320000, (flag (F := Ideal) (a (ix1 e)) (b (ix1 e)) : EReal)) := by
  have tot (f : FVec Ideal S320000 .f32) : (Host.reduceAdd f (constant S_ .f32 0x00000000#32) reducesTo_S320000_S_d0 h_S_ x : EReal) = ∑ e : Fin 320000, (f (ix1 e) : EReal) := by
    rw [ValueIdx.hostReduceAdd_apply, Ideal.hostReduceAdd_r1_a0, zero_const, zero_add]
  unfold out
  rw [ValueIdx.hostDivf_apply, tot, tot]
  refine congrArg₂ Ideal.div (Finset.sum_congr rfl fun e _ => ?_) (Finset.sum_congr rfl fun e _ => flags_apply a b e)
  exact congrArg₂ (· * ·) (losses_apply X a b ha hb e) (flags_apply a b e)

/-- The generated term is this result. -/
theorem term_eq (m : (ℓ : Loc nD τ sig) → Buf (Elt Ideal) ℓ) (c : Dev nD) :
    Cert.ReferenceIdeal.Value.res_main_v22 (F := Ideal) m c = out (m ((c.tc : Thread nD τ).loc main_arg0))
      (shapeCast S320000 (extractStridedSlice S1x320000 ![0, 0] (m ((c.tc : Thread nD τ).loc main_arg1)) slices_S2x320000_S1x320000_0_0) shapeCasts_S1x320000_S320000)
      (shapeCast S320000 (extractStridedSlice S1x320000 ![1, 0] (m ((c.tc : Thread nD τ).loc main_arg1)) slices_S2x320000_S1x320000_1_0) shapeCasts_S1x320000_S320000) := by
  unfold Cert.ReferenceIdeal.Value.res_main_v22 out losses flags taken inside wrap
  rfl

end Cert.Edge.Ref
-- ==== Proof.Value.lean ====
/-
  The value claim: from equal arguments, every edge's ends in range and the table's row 0 finite, the idealized kernel and
  the reference end with the same number. The kernel adds every edge's loss and the reference only those of the flagged
  edges; an edge that is not flagged joins row 0 to itself, and its loss is a sum of squares of a finite number less itself.
-/
module

public import proofs.«01_k».proof.Defs
public import proofs.«01_k».proof.Proof.Edge.Pre
public import proofs.«01_k».proof.Proof.Edge.Ref
public import proofs.«01_k».proof.Proof.KernelIdeal.Main
public import proofs.«01_k».proof.Proof.Gen.ReferenceIdeal.Run

@[expose] public section

noncomputable section

namespace Cert.Edge

open Idealize.ShloMosaic Idealize.SL.Sem

/-- A finite number less itself, squared, is zero. -/
theorem sqd_self (x : Ideal .f32) (h : (x : EReal) ≠ ⊤ ∧ (x : EReal) ≠ ⊥) : (sqd x x : EReal) = 0 := by
  show ((x : EReal) - x) * (x - x) = 0
  rw [EReal.sub_self h.1 h.2, zero_mul]

/-- An edge's loss times its flag is its loss. -/
theorem loss_flag (X : SX.Idx → Ideal .f32) (h : ∀ k : Fin 128, (X (ValueIdx.ix2 0 k) : EReal) ≠ ⊤ ∧ (X (ValueIdx.ix2 0 k) : EReal) ≠ ⊥) (a b : BitVec 32) :
    loss X a b * (flag (F := Ideal) a b : EReal) = loss X a b := by
  by_cases hz : Scalar.ori (IntOp.cmpi .ne a 0#32) (IntOp.cmpi .ne b 0#32) = 1#1
  · have e : (flag (F := Ideal) a b : EReal) = 1 := (if_pos hz).trans one_word
    rw [e, mul_one]
  · have hn := mt IntOp.ori_eq_one.2 hz
    push Not at hn
    have ha : a = 0#32 := by by_contra hne; exact hn.1 (IntOp.cmpi_ne.2 hne)
    have hb : b = 0#32 := by by_contra hne; exact hn.2 (IntOp.cmpi_ne.2 hne)
    subst ha; subst hb
    have hp (k : Fin 128) : pick X 0#32 k.val = X (ValueIdx.ix2 0 k) :=
      congrArg X (funext fun d => match d with | ⟨0, _⟩ => rfl | ⟨1, _⟩ => Fin.ext (Nat.mod_eq_of_lt k.isLt))
    have hl : loss X 0#32 0#32 = 0 := Finset.sum_eq_zero fun k _ => by rw [hp]; exact sqd_self _ (h k)
    rw [hl, zero_mul]

/-- The two programs' results are one number. -/
theorem results_agree (X : SX.Idx → Ideal .f32) (E : SE.Idx → BitVec 32) (hE : InRange E)
    (h : ∀ k : Fin 128, (X (ValueIdx.ix2 0 k) : EReal) ≠ ⊤ ∧ (X (ValueIdx.ix2 0 k) : EReal) ≠ ⊥) (x : (⟨0, ![]⟩ : Shape).Idx) :
    Ref.out X (rowOf E 0) (rowOf E 1) x = Cert.KernelIdeal.Gen.k1_pay1 (F := Ideal) (sumsOf X E) (cntsOf (F := Ideal) E) := by
  refine (Ref.out_eq X _ _ (fun e => hE.word 0 e.val) (fun e => hE.word 1 e.val) x).trans ?_
  refine Eq.trans ?_ (res_eq X E).symm
  exact congrArg₂ Ideal.div (Finset.sum_congr rfl fun e _ => loss_flag X h _ _) rfl

/-- The value claim. -/
theorem value : Cert.algebraic_KernelIdeal_ReferenceIdeal_pre_in_range_row0_finite := fun m g m' g' hp hag => by
  have same (c : Dev Cert.KernelIdeal.nD) : Cert.ReferenceIdeal.Value.res_main_v22 (F := Ideal) m' c = Cert.KernelIdeal.Run.res (F := Ideal) m c := by
    refine (Ref.term_eq m' c).trans ?_
    rw [(hag c).1, (hag c).2]
    refine Eq.trans (congrArg₂ (Ref.out _) (Cert.KernelIdeal.Run.cut_row _ 0 ![0, 0] rfl rfl _ _) (Cert.KernelIdeal.Run.cut_row _ 1 ![1, 0] rfl rfl _ _)) ?_
    exact funext fun x => results_agree _ _ (inRange_of_pre' _ _ (hp c)) (row0_of_pre' _ _ (hp c)) x
  refine ⟨fun c => Cert.KernelIdeal.Run.res (F := Ideal) m c, ?_, ?_⟩
  · exact (θ_run (Cert.KernelIdeal.defs (F := Ideal)) _ _).mono (fun _ h c => ⟨(h.1 c).2.2, (h.1 c).1, (h.1 c).2.1⟩)
      (Cert.KernelIdeal.Run.run_main (F := Ideal) m g fun d => inRange_of_pre' _ _ (hp d))
  · exact (θ_run (Cert.ReferenceIdeal.defs (F := Ideal)) _ _).mono (fun _ h c => ⟨(h c).1.trans (same c), (h c).2⟩)
      (Cert.ReferenceIdeal.Value.run (F := Ideal) m' g')

end Cert.Edge
-- ==== Proof.lean ====
/-
  The certificate: every program's frame, the idealized kernel as the kernel's own text, and the equation of its
  result with the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_edges_in_range
public import proofs.«01_k».proof.Proof.Gen.Pre_in_range_row0_finite
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

/-- Everything the statement claims. -/
theorem claim : Cert.Claim := ⟨Cert.Kernel.Gen.facts, Cert.KernelIdeal.Gen.facts, Cert.ReferenceIdeal.Gen.facts, Cert.Pre_edges_in_range.Gen.facts,
  Cert.Pre_in_range_row0_finite.Gen.facts,
  Cert.Edge.frame_kernel, Cert.Edge.frame_ideal, Cert.Edge.frame_ideal', Cert.Edge.frame_ref, Cert.Edge.frame_ref', trivial, Cert.Edge.value⟩

end Cert.Proof

end
